-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![256, 4096]⟩ ⟨2, ![4096, 4096]⟩ 0 16 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![4096, 128]⟩ ⟨2, ![4096, 2048]⟩ 1 16 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = m' (((0 : Dev Cert.ReferenceIdeal.nD).tc : Thread Cert.ReferenceIdeal.nD Cert.ReferenceIdeal.τ).loc Cert.ReferenceIdeal.main_arg3)) →
    ∃ (v0 : Buf (Elt Ideal) (((0 : Dev Cert.ReferenceIdeal.nD).tc : Thread Cert.ReferenceIdeal.nD Cert.ReferenceIdeal.τ).loc Cert.ReferenceIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![4096, 128]⟩ ⟨2, ![4096, 2048]⟩ 1 16 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S256x4096 : Shape := ⟨2, ![256, 4096]⟩
abbrev S4096x128 : Shape := ⟨2, ![4096, 128]⟩
abbrev S1 : Shape := ⟨1, ![1]⟩
abbrev S16x256x4096 : Shape := ⟨3, ![16, 256, 4096]⟩
abbrev S8x2 : Shape := ⟨2, ![8, 2]⟩
abbrev S_ : Shape := ⟨0, ![]⟩
abbrev S128x4096 : Shape := ⟨2, ![128, 4096]⟩
abbrev S1x128x4096 : Shape := ⟨3, ![1, 128, 4096]⟩
abbrev S1x1 : Shape := ⟨2, ![1, 1]⟩
abbrev S1x256x4096 : Shape := ⟨3, ![1, 256, 4096]⟩
abbrev S256x128 : Shape := ⟨2, ![256, 128]⟩
abbrev S128x128 : Shape := ⟨2, ![128, 128]⟩

abbrev nBuf : Space → Nat
  | .hbm => 5
  | .vmem => 4
  | .smem => 2
  | _ => 0

abbrev bufTy : (tb : Table) → Fin (tcTables nBuf tb) → BufTy
  | .hbm, ⟨0, _⟩ => ⟨S256x4096, .fp8e4m3⟩
  | .hbm, ⟨1, _⟩ => ⟨S4096x128, .fp8e5m2⟩
  | .hbm, ⟨2, _⟩ => ⟨S1, .f32⟩
  | .hbm, ⟨3, _⟩ => ⟨S1, .f32⟩
  | .hbm, ⟨4, _⟩ => ⟨S4096x128, .f32⟩
  | .local _ .vmem, ⟨0, _⟩ => ⟨S256x4096, .fp8e4m3⟩
  | .local _ .vmem, ⟨1, _⟩ => ⟨S4096x128, .fp8e5m2⟩
  | .local _ .vmem, ⟨2, _⟩ => ⟨S4096x128, .f32⟩
  | .local _ .vmem, ⟨3, _⟩ => ⟨S16x256x4096, .fp8e4m3⟩
  | .local _ .smem, ⟨0, _⟩ => ⟨S1, .f32⟩
  | .local _ .smem, ⟨1, _⟩ => ⟨S1, .f32⟩
  | _, _ => ⟨S256x4096, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .smem, ⟨0, _⟩ => true
  | .smem, ⟨1, _⟩ => true
  | _, _ => false

abbrev semScoped : Fin 1 → Bool
  | ⟨0, _⟩ => false
  | _ => false

abbrev dmaSemScoped : Fin 69 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | _ => false

abbrev sig : RefSig :=
  (ofTc nBuf bufTy 1 69 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg4_0 : Ref sig .tc := ⟨.vmem, 2, rfl⟩
abbrev cc0_scratch0 : Ref sig .tc := ⟨.vmem, 3, rfl⟩
abbrev cc0_stg2_0 : Ref sig .tc := ⟨.smem, 0, rfl⟩
abbrev cc0_stg3_0 : Ref sig .tc := ⟨.smem, 1, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_6 : BitVec 32 := 1#32
  let v9 : BitVec 32 := Scalar.muli v5 c1_i32_6
  let v10 : BitVec 32 := Scalar.addi c0_i32 v9
  v10.toNat
def k0_dev2 (d0 : Dev nD) : Nat :=
  let c0_i32_9 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_8 : BitVec 32 := 1#32
  let v11 : BitVec 32 := Scalar.muli v7 c1_i32_8
  let v12 : BitVec 32 := Scalar.addi c0_i32_9 v11
  v12.toNat
def k0_dev3 (d0 : Dev nD) : Nat :=
  let c0_i32_25 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_24 : BitVec 32 := 1#32
  let v24 : BitVec 32 := Scalar.muli v7 c1_i32_24
  let v25 : BitVec 32 := Scalar.addi c0_i32_25 v24
  v25.toNat
def k0_dev4 (d0 : Dev nD) : Nat :=
  let c0_i32_36 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_35 : BitVec 32 := 1#32
  let v34 : BitVec 32 := Scalar.muli v5 c1_i32_35
  let v35 : BitVec 32 := Scalar.addi c0_i32_36 v34
  v35.toNat
def k0_dev5 (d0 : Dev nD) : Nat :=
  let c0_i32_52 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_51 : BitVec 32 := 1#32
  let v49 : BitVec 32 := Scalar.muli v7 c1_i32_51
  let v50 : BitVec 32 := Scalar.addi c0_i32_52 v49
  v50.toNat
def k0_dev6 (d0 : Dev nD) : Nat :=
  let c0_i32_63 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_62 : BitVec 32 := 1#32
  let v59 : BitVec 32 := Scalar.muli v5 c1_i32_62
  let v60 : BitVec 32 := Scalar.addi c0_i32_63 v59
  v60.toNat
def k0_off1 (d0 : Dev nD) (c0_i32_68 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v69 : BitVec 32 := Scalar.subi v2 c0_i32_68
  let c16_i32_69 : BitVec 32 := 16#32
  let v70 : BitVec 32 := Scalar.addi v69 c16_i32_69
  let c16_i32_70 : BitVec 32 := 16#32
  let v71 : BitVec 32 := Scalar.remsi v70 c16_i32_70
  let c256_i32 : BitVec 32 := 256#32
  let v80 : BitVec 32 := Scalar.muli v71 c256_i32
  let c0_i32_75 : BitVec 32 := 0#32
  let v81 : BitVec 32 := Scalar.addi v80 c0_i32_75
  let v82 : Index := Scalar.indexCast v81
  let c0_76 : Index := 0#32
  ![v82.toNat, 0]
def k0_off1_at (r : Fin 15) : BitVec 32 :=
  if r.val < 7 then
    if r.val < 3 then
      if r.val < 1 then
        0#32
      else
        if r.val < 2 then
          1#32
        else
          15#32
    else
      if r.val < 5 then
        if r.val < 4 then
          2#32
        else
          14#32
      else
        if r.val < 6 then
          3#32
        else
          13#32
  else
    if r.val < 11 then
      if r.val < 9 then
        if r.val < 8 then
          4#32
        else
          12#32
      else
        if r.val < 10 then
          5#32
        else
          11#32
    else
      if r.val < 13 then
        if r.val < 12 then
          6#32
        else
          10#32
      else
        if r.val < 14 then
          7#32
        else
          9#32
def k0_dev7 (d0 : Dev nD) : Nat :=
  let c0_i32_96 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_95 : BitVec 32 := 1#32
  let v92 : BitVec 32 := Scalar.muli v7 c1_i32_95
  let v93 : BitVec 32 := Scalar.addi c0_i32_96 v92
  v93.toNat
def k0_dev8 (d0 : Dev nD) : Nat :=
  let c0_i32_120 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_119 : BitVec 32 := 1#32
  let v110 : BitVec 32 := Scalar.muli v7 c1_i32_119
  let v111 : BitVec 32 := Scalar.addi c0_i32_120 v110
  v111.toNat
def k0_dev9 (d0 : Dev nD) : Nat :=
  let c0_i32_143 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_142 : BitVec 32 := 1#32
  let v128 : BitVec 32 := Scalar.muli v5 c1_i32_142
  let v129 : BitVec 32 := Scalar.addi c0_i32_143 v128
  v129.toNat
def k0_dev10 (d0 : Dev nD) : Nat :=
  let c0_i32_167 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_166 : BitVec 32 := 1#32
  let v146 : BitVec 32 := Scalar.muli v5 c1_i32_166
  let v147 : BitVec 32 := Scalar.addi c0_i32_167 v146
  v147.toNat
def k0_dev11 (d0 : Dev nD) : Nat :=
  let c0_i32_210 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_209 : BitVec 32 := 1#32
  let v194 : BitVec 32 := Scalar.muli v7 c1_i32_209
  let v195 : BitVec 32 := Scalar.addi c0_i32_210 v194
  v195.toNat
def k0_dev12 (d0 : Dev nD) : Nat :=
  let c0_i32_234 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_233 : BitVec 32 := 1#32
  let v212 : BitVec 32 := Scalar.muli v7 c1_i32_233
  let v213 : BitVec 32 := Scalar.addi c0_i32_234 v212
  v213.toNat
def k0_dev13 (d0 : Dev nD) : Nat :=
  let c0_i32_257 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_256 : BitVec 32 := 1#32
  let v230 : BitVec 32 := Scalar.muli v5 c1_i32_256
  let v231 : BitVec 32 := Scalar.addi c0_i32_257 v230
  v231.toNat
def k0_dev14 (d0 : Dev nD) : Nat :=
  let c0_i32_281 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_280 : BitVec 32 := 1#32
  let v248 : BitVec 32 := Scalar.muli v5 c1_i32_280
  let v249 : BitVec 32 := Scalar.addi c0_i32_281 v248
  v249.toNat
def k0_dev15 (d0 : Dev nD) : Nat :=
  let c0_i32_324 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_323 : BitVec 32 := 1#32
  let v296 : BitVec 32 := Scalar.muli v7 c1_i32_323
  let v297 : BitVec 32 := Scalar.addi c0_i32_324 v296
  v297.toNat
def k0_dev16 (d0 : Dev nD) : Nat :=
  let c0_i32_348 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_347 : BitVec 32 := 1#32
  let v314 : BitVec 32 := Scalar.muli v7 c1_i32_347
  let v315 : BitVec 32 := Scalar.addi c0_i32_348 v314
  v315.toNat
def k0_dev17 (d0 : Dev nD) : Nat :=
  let c0_i32_371 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_370 : BitVec 32 := 1#32
  let v332 : BitVec 32 := Scalar.muli v5 c1_i32_370
  let v333 : BitVec 32 := Scalar.addi c0_i32_371 v332
  v333.toNat
def k0_dev18 (d0 : Dev nD) : Nat :=
  let c0_i32_395 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_394 : BitVec 32 := 1#32
  let v350 : BitVec 32 := Scalar.muli v5 c1_i32_394
  let v351 : BitVec 32 := Scalar.addi c0_i32_395 v350
  v351.toNat
def k0_dev19 (d0 : Dev nD) : Nat :=
  let c0_i32_438 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_437 : BitVec 32 := 1#32
  let v398 : BitVec 32 := Scalar.muli v7 c1_i32_437
  let v399 : BitVec 32 := Scalar.addi c0_i32_438 v398
  v399.toNat
def k0_dev20 (d0 : Dev nD) : Nat :=
  let c0_i32_462 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_461 : BitVec 32 := 1#32
  let v416 : BitVec 32 := Scalar.muli v7 c1_i32_461
  let v417 : BitVec 32 := Scalar.addi c0_i32_462 v416
  v417.toNat
def k0_dev21 (d0 : Dev nD) : Nat :=
  let c0_i32_485 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_484 : BitVec 32 := 1#32
  let v434 : BitVec 32 := Scalar.muli v5 c1_i32_484
  let v435 : BitVec 32 := Scalar.addi c0_i32_485 v434
  v435.toNat
def k0_dev22 (d0 : Dev nD) : Nat :=
  let c0_i32_509 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_508 : BitVec 32 := 1#32
  let v452 : BitVec 32 := Scalar.muli v5 c1_i32_508
  let v453 : BitVec 32 := Scalar.addi c0_i32_509 v452
  v453.toNat
def k0_dev23 (d0 : Dev nD) : Nat :=
  let c0_i32_552 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_551 : BitVec 32 := 1#32
  let v500 : BitVec 32 := Scalar.muli v7 c1_i32_551
  let v501 : BitVec 32 := Scalar.addi c0_i32_552 v500
  v501.toNat
def k0_dev24 (d0 : Dev nD) : Nat :=
  let c0_i32_576 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_575 : BitVec 32 := 1#32
  let v518 : BitVec 32 := Scalar.muli v7 c1_i32_575
  let v519 : BitVec 32 := Scalar.addi c0_i32_576 v518
  v519.toNat
def k0_dev25 (d0 : Dev nD) : Nat :=
  let c0_i32_599 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_598 : BitVec 32 := 1#32
  let v536 : BitVec 32 := Scalar.muli v5 c1_i32_598
  let v537 : BitVec 32 := Scalar.addi c0_i32_599 v536
  v537.toNat
def k0_dev26 (d0 : Dev nD) : Nat :=
  let c0_i32_623 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_622 : BitVec 32 := 1#32
  let v554 : BitVec 32 := Scalar.muli v5 c1_i32_622
  let v555 : BitVec 32 := Scalar.addi c0_i32_623 v554
  v555.toNat
def k0_dev27 (d0 : Dev nD) : Nat :=
  let c0_i32_666 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_665 : BitVec 32 := 1#32
  let v602 : BitVec 32 := Scalar.muli v7 c1_i32_665
  let v603 : BitVec 32 := Scalar.addi c0_i32_666 v602
  v603.toNat
def k0_dev28 (d0 : Dev nD) : Nat :=
  let c0_i32_690 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_689 : BitVec 32 := 1#32
  let v620 : BitVec 32 := Scalar.muli v7 c1_i32_689
  let v621 : BitVec 32 := Scalar.addi c0_i32_690 v620
  v621.toNat
def k0_dev29 (d0 : Dev nD) : Nat :=
  let c0_i32_713 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_712 : BitVec 32 := 1#32
  let v638 : BitVec 32 := Scalar.muli v5 c1_i32_712
  let v639 : BitVec 32 := Scalar.addi c0_i32_713 v638
  v639.toNat
def k0_dev30 (d0 : Dev nD) : Nat :=
  let c0_i32_737 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_736 : BitVec 32 := 1#32
  let v656 : BitVec 32 := Scalar.muli v5 c1_i32_736
  let v657 : BitVec 32 := Scalar.addi c0_i32_737 v656
  v657.toNat
def k0_dev31 (d0 : Dev nD) : Nat :=
  let c0_i32_780 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_779 : BitVec 32 := 1#32
  let v704 : BitVec 32 := Scalar.muli v7 c1_i32_779
  let v705 : BitVec 32 := Scalar.addi c0_i32_780 v704
  v705.toNat
def k0_dev32 (d0 : Dev nD) : Nat :=
  let c0_i32_828 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_827 : BitVec 32 := 1#32
  let v738 : BitVec 32 := Scalar.muli v5 c1_i32_827
  let v739 : BitVec 32 := Scalar.addi c0_i32_828 v738
  v739.toNat
def k0_off2 (d0 : Dev nD) (c0_i32_873 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_865 : BitVec 32 := 8#32
  let v786 : BitVec 32 := Scalar.subi v2 c8_i32_865
  let c16_i32_866 : BitVec 32 := 16#32
  let v787 : BitVec 32 := Scalar.addi v786 c16_i32_866
  let c16_i32_867 : BitVec 32 := 16#32
  let v788 : BitVec 32 := Scalar.remsi v787 c16_i32_867
  let c256_i32_872 : BitVec 32 := 256#32
  let v797 : BitVec 32 := Scalar.muli v788 c256_i32_872
  let v798 : BitVec 32 := Scalar.addi v797 c0_i32_873
  let v799 : Index := Scalar.indexCast v798
  let c0_874 : Index := 0#32
  ![v799.toNat, 0]
abbrev stage0_0 : Fin 1 → Memref sig .tc .vmem S256x4096 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4096x128 .fp8e5m2 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .smem S1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .smem S1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S4096x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== ReferenceIdeal.lean ====
abbrev S4096x4096 : Shape := ⟨2, ![4096, 4096]⟩
abbrev S4096x2048 : Shape := ⟨2, ![4096, 2048]⟩
abbrev S1 : Shape := ⟨1, ![1]⟩

abbrev nBuf : Space → Nat
  | .hbm => 5
  | .vmem => 3
  | .smem => 2
  | _ => 0

abbrev bufTy : (tb : Table) → Fin (tcTables nBuf tb) → BufTy
  | .hbm, ⟨0, _⟩ => ⟨S4096x4096, .fp8e4m3⟩
  | .hbm, ⟨1, _⟩ => ⟨S4096x2048, .fp8e5m2⟩
  | .hbm, ⟨2, _⟩ => ⟨S1, .f32⟩
  | .hbm, ⟨3, _⟩ => ⟨S1, .f32⟩
  | .hbm, ⟨4, _⟩ => ⟨S4096x2048, .f32⟩
  | .local _ .vmem, ⟨0, _⟩ => ⟨S4096x4096, .fp8e4m3⟩
  | .local _ .vmem, ⟨1, _⟩ => ⟨S4096x2048, .fp8e5m2⟩
  | .local _ .vmem, ⟨2, _⟩ => ⟨S4096x2048, .f32⟩
  | .local _ .smem, ⟨0, _⟩ => ⟨S1, .f32⟩
  | .local _ .smem, ⟨1, _⟩ => ⟨S1, .f32⟩
  | _, _ => ⟨S4096x4096, .fp8e4m3⟩

abbrev bufScoped : (cs : CoreSpace) → Fin (nBuf (.core cs)) → Bool
  | .vmem, ⟨0, _⟩ => true
  | .vmem, ⟨1, _⟩ => true
  | .vmem, ⟨2, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg4_0 : Ref sig .tc := ⟨.vmem, 2, rfl⟩
abbrev cc0_stg2_0 : Ref sig .tc := ⟨.smem, 0, rfl⟩
abbrev cc0_stg3_0 : Ref sig .tc := ⟨.smem, 1, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := .none

abbrev stage0_0 : Fin 1 → Memref sig .tc .vmem S4096x4096 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4096x2048 .fp8e5m2 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .smem S1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .smem S1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S4096x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== Proof.Mesh.lean ====
/-
  The ring of sixteen devices and the transfers around it.

  Every device forwards chunks of `x` both ways. A transfer is named by its direction (`true`: to the next device, `false`: to the
  previous one), its hop `0..7` and its half `0, 1`: the halves of a block go as separate copies. Two of the thirty-two names are not
  used: on the last hop only one half goes each way.

  This module names the cells, the chunks of the gather buffer each transfer reads and writes, the order in which a device
  starts and awaits them, and the contents the gather buffer comes to hold.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Rounds
public import Idealize.ShloMosaic.Lib.ViewIndex
public import Idealize.ShloMosaic.Lib.Tactic

@[expose] public section

set_option maxRecDepth 16384

noncomputable section

namespace Cert.RingMatmul

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

/-! ## The ring -/

set_option backward.proofsInPublic true in
def nxt (c : Dev nD) : Dev nD := ⟨(c.val + 1) % 16, Nat.mod_lt _ (by decide)⟩
set_option backward.proofsInPublic true in
def prv (c : Dev nD) : Dev nD := ⟨(c.val + 15) % 16, Nat.mod_lt _ (by decide)⟩

theorem prv_nxt (c : Dev nD) : prv (nxt c) = c := by revert c; decide
theorem nxt_prv (c : Dev nD) : nxt (prv c) = c := by revert c; decide

/-- One step around the ring: forwards at `true`, backwards at `false`. -/
def side (b : Bool) (c : Dev nD) : Dev nD := if b then nxt c else prv c

theorem side_side (b : Bool) (c : Dev nD) : side b (side (!b) c) = c := by
  cases b
  · exact prv_nxt c
  · exact nxt_prv c

def turn (b : Bool) : Dev nD ≃ Dev nD :=
  ⟨side b, side (!b), fun c => by have := side_side (!b) c; rwa [Bool.not_not] at this, side_side b⟩

/-! ## Transfers -/

/-- A transfer: direction, hop, half. -/
abbrev Tr : Type := Bool × Fin 8 × Fin 2

abbrev Tr.dev (t : Tr) (c : Dev nD) : Dev nD := side t.1 c

/-- The transfers that are made. -/
def UT : Finset Tr := (Finset.univ.erase (true, 7, 1)).erase (false, 7, 0)
/-- Those of one direction. -/
def UD (b : Bool) : Finset Tr := UT.filter fun t => t.1 = b
/-- Those whose landed chunk is sent on. -/
def FW : Finset Tr := UT.filter fun t => t.2.1 ≠ 7 ∧ (t.1, t.2.1 + 1, t.2.2) ∈ UT

/-- The transfer that sends on what `t` brought. -/
def onward : Tr ↪ Tr := ⟨fun t => (t.1, t.2.1 + 1, t.2.2), by decide⟩

set_option backward.proofsInPublic true in
/-- The slot a transfer reads on the sender. -/
def fromSlot (t : Tr) : Fin 16 := ⟨(if t.1 then t.2.1.val else 16 - t.2.1.val) % 16, Nat.mod_lt _ (by decide)⟩
set_option backward.proofsInPublic true in
/-- The slot it writes on the receiver. -/
def toSlot (t : Tr) : Fin 16 := ⟨(if t.1 then t.2.1.val + 1 else 15 - t.2.1.val) % 16, Nat.mod_lt _ (by decide)⟩

theorem fromSlot_onward : ∀ t ∈ FW, fromSlot (onward t) = toSlot t := by decide
theorem onward_mem : ∀ t ∈ FW, onward t ∈ UT := by decide
theorem toSlot_ne : ∀ t ∈ UT, ∀ t' ∈ UT, t ≠ t' → (toSlot t, t.2.2) ≠ (toSlot t', t'.2.2) := by decide +kernel
theorem toSlot_pos : ∀ t ∈ UT, toSlot t ≠ 0 := by decide
theorem toSlot_onto : ∀ s : Fin 16, s ≠ 0 → ∀ p : Fin 2, ∃ t ∈ UT, toSlot t = s ∧ t.2.2 = p := by decide +kernel
theorem hop_zero_from : ∀ t : Tr, t.2.1 = 0 → fromSlot t = 0 := by decide

/-- The order in which a device starts its transfers, awaits its arrivals, and awaits that its own have left. -/
def hopsOf (h : Fin 8) : List Tr := [(true, h, 0), (true, h, 1), (false, h, 0), (false, h, 1)]
def sends : List Tr :=
  [(true, 0, 0), (false, 0, 0), (true, 0, 1), (false, 0, 1)] ++ hopsOf 1 ++ hopsOf 2 ++ hopsOf 3 ++ hopsOf 4 ++ hopsOf 5 ++ hopsOf 6
    ++ [(true, 7, 0), (false, 7, 1)]
def arrivals : List Tr :=
  hopsOf 0 ++ hopsOf 1 ++ hopsOf 2 ++ hopsOf 3 ++ hopsOf 4 ++ hopsOf 5 ++ hopsOf 6 ++ [(true, 7, 0), (false, 7, 1)]
def leaves : List Tr :=
  ((List.finRange 8).flatMap fun h => [(true, h, 0), (true, h, 1)]).filter (· ≠ (true, 7, 1))
    ++ ((List.finRange 8).flatMap fun h => [(false, h, 0), (false, h, 1)]).filter (· ≠ (false, 7, 0))

/-! ## Memrefs and cells -/

abbrev gM : Memref sig .tc .vmem S16x256x4096 .fp8e4m3 := Memref.whole cc0_scratch0

theorem chunk_inb (s : Fin 16) (p : Fin 2) : ∀ a, (![s.val, 128 * p.val, 0] : Fin 3 → Nat) a + S1x128x4096.size a ≤ S16x256x4096.size a := by
  revert s p; decide

/-- Half `p` of slot `s` of the gather buffer, as the copies address it. -/
abbrev chunk (s : Fin 16) (p : Fin 2) : Memref sig .tc .vmem S128x4096 .fp8e4m3 :=
  (gM.slice (Rect.unit (s := S16x256x4096) ![s.val, 128 * p.val, 0] S1x128x4096.size (chunk_inb s p)) (fun _ => rfl)).squeeze
    S128x4096 squeezes_S1x128x4096_S128x4096

abbrev barS : Sem sig := (SemArray.scalar (sig.barrier 0 rfl) : Sems sig S_).sem

set_option backward.proofsInPublic true in
/-- The semaphore a transfer's departure, and its arrival, is counted on. -/
def outQ (t : Tr) : DmaSem sig := ⟨(if t.1 then 5 else 37) + (2 * t.2.1.val + t.2.2.val), by revert t; decide⟩
set_option backward.proofsInPublic true in
def inQ (t : Tr) : DmaSem sig := ⟨(if t.1 then 21 else 53) + (2 * t.2.1.val + t.2.2.val), by revert t; decide⟩

/-- What a cell of the protocol counts. -/
inductive Role where
  | bar | out (t : Tr) | inn (t : Tr) | other
  deriving DecidableEq

set_option backward.proofsInPublic true in
def trOf (b : Bool) (n : Nat) : Tr := (b, ⟨n / 2 % 8, Nat.mod_lt _ (by decide)⟩, ⟨n % 2, Nat.mod_lt _ (by decide)⟩)

def roleOf : SemLoc sig → Role
  | .reg q => if q = barS then .bar else .other
  | .dma q =>
    if q.val < 5 then .other else if q.val < 21 then .out (trOf true (q.val - 5)) else if q.val < 37 then .inn (trOf true (q.val - 21))
    else if q.val < 53 then .out (trOf false (q.val - 37)) else .inn (trOf false (q.val - 53))

theorem roleOf_bar : roleOf (.reg barS) = .bar := by simp [roleOf]
theorem roleOf_out : ∀ t : Tr, roleOf (.dma (outQ t)) = .out t := by decide +kernel
theorem roleOf_in : ∀ t : Tr, roleOf (.dma (inQ t)) = .inn t := by decide +kernel

abbrev barCell (c : Dev nD) : GSem nD τ sig := ((c : Thread nD τ), .reg barS)
abbrev outCell (c : Dev nD) (t : Tr) : GSem nD τ sig := ((c : Thread nD τ), .dma (outQ t))
abbrev inCell (c : Dev nD) (t : Tr) : GSem nD τ sig := ((c : Thread nD τ), .dma (inQ t))

/-- The credit of one copy. -/
abbrev N : ℕ := (chunk 0 0).view.dmaCredit
theorem N_pos : 0 < N := View.dmaCredit_pos _ (by decide)
theorem credit_chunk (s : Fin 16) (p : Fin 2) : (chunk s p).view.dmaCredit = N := rfl

end Cert.RingMatmul

end
-- ==== Proof.Sched.lean ====
/-
  What the gather buffer comes to hold, and the schedule of the cells.

  Slot `s` of a device's gather buffer comes to hold the block of `x` of the device `s` places back around the ring. A transfer's
  arrival cell pays out the chunk it wrote, at those contents; its departure cell pays back the share of the chunk it read; a
  device's barrier cell pays out, for each of its two neighbours, the neighbour's chunks that this device's transfers write.
-/
module

public import proofs.«01_k».proof.Proof.Mesh

@[expose] public section

set_option maxRecDepth 16384

noncomputable section

namespace Cert.RingMatmul

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

abbrev UB : Type := URounds (GSem nD τ sig) Bool
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ)

/-! ## Contents -/

/-- The operands as a device's kernel finds them staged. -/
def xstg (c : Dev nD) : (cc0_stg0_0 : Ref sig .tc).ty.Contents (Elt F) :=
  (win0_0.blk (0 : Fin 1)).view.read (Elt F) (m ((c : Thread nD τ).loc main_arg0))
def wstg (c : Dev nD) : (cc0_stg1_0 : Ref sig .tc).ty.Contents (Elt F) :=
  (win0_1.blk (0 : Fin 1)).view.read (Elt F) (m ((c : Thread nD τ).loc main_arg1))
def sxstg (c : Dev nD) : (cc0_stg2_0 : Ref sig .tc).ty.Contents (Elt F) :=
  (win0_2.blk (0 : Fin 1)).view.read (Elt F) (m ((c : Thread nD τ).loc main_arg2))
def swstg (c : Dev nD) : (cc0_stg3_0 : Ref sig .tc).ty.Contents (Elt F) :=
  (win0_3.blk (0 : Fin 1)).view.read (Elt F) (m ((c : Thread nD τ).loc main_arg3))

/-- The device `s` places back around the ring. -/
def back (c : Dev nD) (s : Fin 16) : Dev nD := ⟨(c.val + 16 - s.val) % 16, Nat.mod_lt _ (by decide)⟩

/-- A transfer moves a block from the slot it has on the sender to the slot it has on the receiver. -/
theorem back_side : ∀ t ∈ UT, ∀ c : Dev nD, back (side t.1 c) (toSlot t) = back c (fromSlot t) := by decide +kernel

/-- A rank-two index from its coordinates. -/
def ix2 {d : Fin 2 → ℕ} (r : Fin (d 0)) (k : Fin (d 1)) : (⟨2, d⟩ : Shape).Idx := fun a => match a with | ⟨0, _⟩ => r | ⟨1, _⟩ => k

/-- The gather buffer of device `c`, once everything has arrived. -/
def gathF (c : Dev nD) : Buf (Elt F) ((c : Thread nD τ).loc cc0_scratch0) := fun i =>
  xstg m (back c (i 0)) (ix2 (i 1) (i 2))

/-- The elements of half `p` of slot `s`. -/
abbrev cset (s : Fin 16) (p : Fin 2) : Finset S16x256x4096.Idx :=
  (Rect.unit (s := S16x256x4096) ![s.val, 128 * p.val, 0] S1x128x4096.size (chunk_inb s p)).set

theorem mem_cset {s : Fin 16} {p : Fin 2} {i : S16x256x4096.Idx} : i ∈ cset s p ↔ (i 0).val = s.val ∧ (i 1).val / 128 = p.val := by
  rw [Rect.mem_set_unit]
  have h2 : (i 2).val < 4096 := (i 2).isLt
  constructor
  · intro h
    have h0 : s.val ≤ (i 0).val ∧ (i 0).val < s.val + 1 := h 0
    have h1 : 128 * p.val ≤ (i 1).val ∧ (i 1).val < 128 * p.val + 128 := h 1
    omega
  · rintro ⟨h0, h1⟩ a
    fin_cases a
    · show s.val ≤ (i 0).val ∧ (i 0).val < s.val + 1; omega
    · show 128 * p.val ≤ (i 1).val ∧ (i 1).val < 128 * p.val + 128; omega
    · show 0 ≤ (i 2).val ∧ (i 2).val < 0 + 4096; omega

theorem cset_disjoint {s s' : Fin 16} {p p' : Fin 2} (h : (s, p) ≠ (s', p')) : Disjoint (cset s p) (cset s' p') := by
  rw [Finset.disjoint_left]
  intro i hi hi'
  rw [mem_cset] at hi hi'
  exact h (Prod.ext (Fin.ext (hi.1.symm.trans hi'.1)) (Fin.ext (hi.2.symm.trans hi'.2)))

theorem chunk_set (s : Fin 16) (p : Fin 2) : (chunk s p).view.set = cset s p := by
  refine (View.set_reshape _ _).trans ?_
  show (gM.view.slice _).set = _
  rw [View.set_slice]
  exact Finset.map_refl

theorem chunk_emb (s : Fin 16) (p : Fin 2) (y : S128x4096.Idx) :
    ∃ z : S1x128x4096.Idx, ∀ s p, (chunk s p).view.emb y
      = (Rect.unit (s := S16x256x4096) ![s.val, 128 * p.val, 0] S1x128x4096.size (chunk_inb s p)).emb z :=
  ⟨Shape.reshapeEquiv squeezes_S1x128x4096_S128x4096.numel_eq y, fun _ _ => rfl⟩

/-- The gather buffer at an element of a chunk. -/
theorem gathF_emb (c : Dev nD) (s : Fin 16) (p : Fin 2) (z : S1x128x4096.Idx) :
    gathF m c ((Rect.unit (s := S16x256x4096) ![s.val, 128 * p.val, 0] S1x128x4096.size (chunk_inb s p)).emb z)
      = xstg m (back c s) (ix2 ⟨128 * p.val + (z 1).val, by have h : (z 1).val < 128 := (z 1).isLt; have := p.isLt; show 128 * p.val + (z 1).val < 256; omega⟩ (z 2)) := by
  unfold gathF
  have h0 : (Rect.unit (s := S16x256x4096) ![s.val, 128 * p.val, 0] S1x128x4096.size (chunk_inb s p)).emb z 0 = s := by
    apply Fin.ext
    rw [Rect.emb_apply]
    have : (z 0).val < 1 := (z 0).isLt
    show s.val + 1 * (z 0).val = s.val; omega
  rw [h0]
  congr 1
  funext a
  fin_cases a
  · apply Fin.ext
    show ((Rect.unit (s := S16x256x4096) ![s.val, 128 * p.val, 0] S1x128x4096.size (chunk_inb s p)).emb z 1).val = _
    rw [Rect.emb_apply]
    show 128 * p.val + 1 * (z 1).val = 128 * p.val + (z 1).val; omega
  · apply Fin.ext
    show ((Rect.unit (s := S16x256x4096) ![s.val, 128 * p.val, 0] S1x128x4096.size (chunk_inb s p)).emb z 2).val = (z 2).val
    rw [Rect.emb_apply]
    show 0 + 1 * (z 2).val = (z 2).val; omega

/-- What a transfer writes is what its target chunk is to hold. -/
theorem landed {t : Tr} (ht : t ∈ UT) (c : Dev nD) (fd : Buf (Elt F) ((chunk (toSlot t) t.2.2).view.loc (side t.1 c : Thread nD τ))) :
    ∀ i ∈ (chunk (toSlot t) t.2.2).view.set,
      (chunk (toSlot t) t.2.2).view.write (Elt F) fd ((chunk (fromSlot t) t.2.2).view.read (Elt F) (gathF m c)) Finset.univ i
        = gathF m (side t.1 c) i := by
  intro i hi
  obtain ⟨y, -, rfl⟩ := Finset.mem_map.mp hi
  rw [View.write_emb_of_mem _ _ (Finset.mem_univ y), View.read_apply]
  obtain ⟨z, hz⟩ := chunk_emb 0 0 y
  rw [hz, hz, gathF_emb, gathF_emb, back_side t ht c]
  rfl

/-! ## Points-to of chunks -/

/-- Half `p` of slot `s` of device `c`'s gather buffer, at share `q`, at contents `f`. -/
def pts (q : PosShare TreeShare) (c : Dev nD) (s : Fin 16) (p : Fin 2) (f : Buf (Elt F) ((c : Thread nD τ).loc cc0_scratch0)) : sProp 𝕄 :=
  (chunk s p).view.loc (c : Thread nD τ) ↦[(chunk s p).view.set]{q} f

instance pts_storable (q) (c : Dev nD) (s p) (f) : BI.Storable (upEmb : UEmb _ 𝕄) (pts (F := F) q c s p f) := by unfold pts; infer_instance

theorem pts_eq (q) (c : Dev nD) (s p) (f : Buf (Elt F) ((c : Thread nD τ).loc cc0_scratch0)) :
    pts q c s p f = (((c : Thread nD τ).loc cc0_scratch0) ↦[cset s p]{q} f : sProp 𝕄) := by unfold pts; rw [chunk_set]

/-- The share of its source chunk a transfer takes along: a quarter of the device's own block, which goes both ways, half of a
    block that goes on. -/
def lent (t : Tr) : PosShare TreeShare := if t.2.1 = 0 then (if t.1 then fullShare.left.left else fullShare.left.right) else fullShare.left

def outPay (c : Dev nD) (t : Tr) : sProp 𝕄 := pts (lent t) c (fromSlot t) t.2.2 (gathF m c)
def inPay (c : Dev nD) (t : Tr) : sProp 𝕄 := pts fullShare c (toSlot t) t.2.2 (gathF m c)
def raw (c : Dev nD) (s : Fin 16) (p : Fin 2) : sProp 𝕄 := iprop(∃ f, pts (F := F) fullShare c s p f)
def barPay (c : Dev nD) (b : Bool) : sProp 𝕄 := bigSep (UD b) fun t => raw (F := F) (side b c) (toSlot t) t.2.2

instance raw_storable (c : Dev nD) (s p) : BI.Storable (upEmb : UEmb _ 𝕄) (raw (F := F) c s p) := by unfold raw; infer_instance
instance outPay_storable (c : Dev nD) (t) : BI.Storable (upEmb : UEmb _ 𝕄) (outPay m c t) := by unfold outPay; infer_instance
instance inPay_storable (c : Dev nD) (t) : BI.Storable (upEmb : UEmb _ 𝕄) (inPay m c t) := by unfold inPay; infer_instance
instance barPay_storable (c : Dev nD) (b) : BI.Storable (upEmb : UEmb _ 𝕄) (barPay (F := F) c b) := by unfold barPay; infer_instance

/-! ## The schedule -/

def dutiesOf : Role → Finset Bool
  | .bar => Finset.univ
  | .out t => if t ∈ UT then {true} else ∅
  | .inn t => if t ∈ UT then {true} else ∅
  | .other => ∅

def amountOf : Role → ℕ
  | .bar => 1
  | _ => N

def payOf (c : Dev nD) (d : Bool) : Role → sProp 𝕄
  | .bar => barPay c d
  | .out t => outPay m c t
  | .inn t => inPay m c t
  | .other => iprop(emp)

/-- One round: a barrier cell takes one unit from each neighbour, a used copy cell one copy's credit. -/
def rd : Rounds.Schedule (GSem nD τ sig) Bool 𝕄 where
  duties g r := if r = 0 then dutiesOf (roleOf g.2) else ∅
  unitless _ := False
  amount g _ _ := amountOf (roleOf g.2)
  payload g _ d := payOf m g.1.1 d (roleOf g.2)
  amount_pos g _ _ _ := by
    generalize roleOf g.2 = k
    cases k
    · exact Nat.one_pos
    all_goals exact N_pos

instance rd_payload_storable (g : GSem nD τ sig) (r : ℕ) (d : Bool) : BI.Storable (upEmb : UEmb _ 𝕄) ((rd m).payload g r d) := by
  show BI.Storable upEmb (payOf m g.1.1 d (roleOf g.2))
  generalize roleOf g.2 = k
  cases k <;> (unfold payOf; infer_instance)

theorem duties_bar (c : Dev nD) : (rd m).duties (barCell c) 0 = Finset.univ := by
  show (if 0 = 0 then dutiesOf (roleOf (.reg barS)) else ∅) = _; rw [if_pos rfl, roleOf_bar]; rfl
theorem duties_out (c : Dev nD) {t : Tr} (ht : t ∈ UT) : (rd m).duties (outCell c t) 0 = {true} := by
  show (if 0 = 0 then dutiesOf (roleOf (.dma (outQ t))) else ∅) = _; rw [if_pos rfl, roleOf_out]; exact if_pos ht
theorem duties_in (c : Dev nD) {t : Tr} (ht : t ∈ UT) : (rd m).duties (inCell c t) 0 = {true} := by
  show (if 0 = 0 then dutiesOf (roleOf (.dma (inQ t))) else ∅) = _; rw [if_pos rfl, roleOf_in]; exact if_pos ht
theorem duties_out_none (c : Dev nD) {t : Tr} (ht : t ∉ UT) (r : ℕ) : (rd m).duties (outCell c t) r = ∅ := by
  show (if r = 0 then dutiesOf (roleOf (.dma (outQ t))) else ∅) = _; rw [roleOf_out]
  split
  · exact if_neg ht
  · rfl
theorem duties_in_none (c : Dev nD) {t : Tr} (ht : t ∉ UT) (r : ℕ) : (rd m).duties (inCell c t) r = ∅ := by
  show (if r = 0 then dutiesOf (roleOf (.dma (inQ t))) else ∅) = _; rw [roleOf_in]
  split
  · exact if_neg ht
  · rfl
theorem duties_later (g : GSem nD τ sig) : ∀ r, 1 ≤ r → (rd m).duties g r = ∅ := fun r hr => if_neg (by omega)

theorem amount_bar (c : Dev nD) (d : Bool) : (rd m).amount (barCell c) 0 d = 1 := by
  show amountOf (roleOf (.reg barS)) = 1; rw [roleOf_bar]; rfl
theorem amount_out (c : Dev nD) (t : Tr) (d : Bool) : (rd m).amount (outCell c t) 0 d = N := by
  show amountOf (roleOf (.dma (outQ t))) = N; rw [roleOf_out]; rfl
theorem amount_in (c : Dev nD) (t : Tr) (d : Bool) : (rd m).amount (inCell c t) 0 d = N := by
  show amountOf (roleOf (.dma (inQ t))) = N; rw [roleOf_in]; rfl

theorem payload_bar (c : Dev nD) (d : Bool) : (rd m).payload (barCell c) 0 d = barPay c d := by
  show payOf m c d (roleOf (.reg barS)) = _; rw [roleOf_bar]; rfl
theorem payload_out (c : Dev nD) (t : Tr) (d : Bool) : (rd m).payload (outCell c t) 0 d = outPay m c t := by
  show payOf m c d (roleOf (.dma (outQ t))) = _; rw [roleOf_out]; rfl
theorem payload_in (c : Dev nD) (t : Tr) (d : Bool) : (rd m).payload (inCell c t) 0 d = inPay m c t := by
  show payOf m c d (roleOf (.dma (inQ t))) = _; rw [roleOf_in]; rfl

theorem expect_bar (c : Dev nD) : (rd m).expect (barCell c) 0 = 2 := by
  unfold Rounds.Schedule.expect; unfold Rounds.Schedule.amountOf; rw [duties_bar, Finset.sum_congr rfl fun d _ => amount_bar m c d]; rfl
theorem expect_out (c : Dev nD) {t : Tr} (ht : t ∈ UT) : (rd m).expect (outCell c t) 0 = N := by
  unfold Rounds.Schedule.expect Rounds.Schedule.amountOf; rw [duties_out m c ht, Finset.sum_singleton, amount_out]
theorem expect_in (c : Dev nD) {t : Tr} (ht : t ∈ UT) : (rd m).expect (inCell c t) 0 = N := by
  unfold Rounds.Schedule.expect Rounds.Schedule.amountOf; rw [duties_in m c ht, Finset.sum_singleton, amount_in]

theorem rest_bar (c : Dev nD) : bigSep ((rd m).duties (barCell c) 0 \ ∅) (fun d => (rd m).payload (barCell c) 0 d)
    = iprop(barPay c false ∗ barPay c true) := by
  rw [Finset.sdiff_empty, duties_bar, bigSep_univ_eq_bigSepL [false, true] (by decide) (by decide), bigSepL_cons_cons, bigSepL_singleton,
    payload_bar, payload_bar]; rfl
theorem rest_out (c : Dev nD) {t : Tr} (ht : t ∈ UT) :
    bigSep ((rd m).duties (outCell c t) 0 \ ∅) (fun d => (rd m).payload (outCell c t) 0 d) = outPay m c t := by
  rw [Finset.sdiff_empty, duties_out m c ht, bigSep_singleton, payload_out]
theorem rest_in (c : Dev nD) {t : Tr} (ht : t ∈ UT) :
    bigSep ((rd m).duties (inCell c t) 0 \ ∅) (fun d => (rd m).payload (inCell c t) 0 d) = inPay m c t := by
  rw [Finset.sdiff_empty, duties_in m c ht, bigSep_singleton, payload_in]

/-! ## What a device owes, and the levels -/

/-- The credit a device owes its neighbours' arrival cells for the transfers `l` still to be started. -/
def owed (c : Dev nD) : List Tr → CellTallies nD τ sig Unit
  | [] => 0
  | t :: l => owed c l + tallyAt (inCell (t.dev c) t) () N

/-- What it owes at launch: the transfers, a unit to the next device's barrier cell and one to the previous device's. -/
def O₁ (c : Dev nD) : CellTallies nD τ sig Unit := owed c sends + tallyAt (barCell (nxt c)) () 1
def O₀ (c : Dev nD) : CellTallies nD τ sig Unit := O₁ c + tallyAt (barCell (prv c)) () 1

def L (g : GSem nD τ sig) : Finset Unit := if g.1.2 = .tc then {()} else ∅
def levOf : Role → ℕ
  | .bar => 1
  | .inn t => t.2.1.val + 2
  | _ => 0
/-- An arrival cell is above the arrival cells of earlier hops, all above the barrier cells, those above the rest. -/
def lv (g : GSem nD τ sig) (_ : Unit) : ℕ := levOf (roleOf g.2)

theorem L_of_ne (g : GSem nD τ sig) (h : g.1.2 ≠ .tc) : L g = ∅ := if_neg h
theorem L_tc (c : Dev nD) (sm : SemLoc sig) : L ((c : Thread nD τ), sm) = {()} := if_pos rfl

theorem owed_pos {c : Dev nD} {l : List Tr} {g : GSem nD τ sig} {u : Unit} (h : 0 < owed c l g u) : ∃ t ∈ l, g = inCell (t.dev c) t := by
  induction l with
  | nil => exact absurd h (Nat.lt_irrefl 0)
  | cons t l ih =>
    unfold owed at h
    rw [Pi.add_apply, Finsupp.add_apply, tallyAt_apply] at h
    by_cases hg : g = inCell (t.dev c) t ∧ u = ()
    · exact ⟨t, List.mem_cons_self, hg.1⟩
    · rw [if_neg hg, Nat.add_zero] at h
      obtain ⟨t', ht', e⟩ := ih h
      exact ⟨t', List.mem_cons_of_mem _ ht', e⟩

theorem O₀_pos {c : Dev nD} {g : GSem nD τ sig} {u : Unit} (h : 0 < O₀ c g u) :
    (∃ t ∈ sends, g = inCell (t.dev c) t) ∨ g = barCell (nxt c) ∨ g = barCell (prv c) := by
  have key : ∀ T : CellTallies nD τ sig Unit, 0 < (T + tallyAt (barCell (nxt c)) () 1 + tallyAt (barCell (prv c)) () 1) g u →
      0 < T g u ∨ g = barCell (nxt c) ∨ g = barCell (prv c) := by
    intro T h
    rw [Pi.add_apply, Finsupp.add_apply, Pi.add_apply, Finsupp.add_apply, tallyAt_apply, tallyAt_apply] at h
    by_cases h1 : g = barCell (nxt c)
    · exact .inr (.inl h1)
    · by_cases h2 : g = barCell (prv c)
      · exact .inr (.inr h2)
      · rw [if_neg (fun h' => h1 h'.1), if_neg (fun h' => h2 h'.1)] at h
        exact .inl h
  exact (key _ h).imp owed_pos id

theorem lv_in (c : Dev nD) (t : Tr) : lv (inCell c t) () = t.2.1.val + 2 := by unfold lv; rw [roleOf_in]; rfl
theorem lv_bar (c : Dev nD) : lv (barCell c) () = 1 := by unfold lv; rw [roleOf_bar]; rfl

/-- A device may wait on a cell below the arrival cells of everything it has still to send. -/
theorem mayWait_cut (c : Dev nD) (sm : SemLoc sig) (n : ℕ) (hn : lv ((c : Thread nD τ), sm) () ≤ n) (l : List Tr) (hl : ∀ t ∈ l, n < t.2.1.val + 2) :
    (levAts L lv : sProp 𝕄) ⊢ MayWait (c : Thread nD τ) sm () (owed c l) :=
  MayOwe.of_cut (L := L) (lev := lv) n (fun p hp => by rw [Finset.mem_singleton.mp hp, L_tc]; exact Finset.mem_singleton_self _)
    (fun g u hg => by obtain ⟨t, -, rfl⟩ := owed_pos hg; exact Finset.mem_singleton_self _)
    (fun p hp => by rw [Finset.mem_singleton.mp hp]; exact hn)
    (fun g u hg => by obtain ⟨t, ht, rfl⟩ := owed_pos hg; rw [show u = () from rfl, lv_in]; exact hl t ht)

/-- The staging cells are below everything. -/
theorem mayWait_stage (c : Dev nD) (q : DmaSem sig) (hq : roleOf (.dma q) = .other) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases O₀_pos hg with ⟨t, -, rfl⟩ | rfl | rfl <;> exact Finset.mem_singleton_self _)
      (fun p hp => by rw [Finset.mem_singleton.mp hp]; unfold lv; rw [hq]; exact Nat.le_refl 0)
      (fun g u hg => by
        rcases O₀_pos hg with ⟨t, -, rfl⟩ | rfl | rfl
        · rw [show u = () from rfl, lv_in]; omega
        · rw [show u = () from rfl, lv_bar]; omega
        · rw [show u = () from rfl, lv_bar]; omega)
  · rw [MayWait_zero]; iintro -; iempintro

end Cert.RingMatmul

end
-- ==== Proof.State.lean ====
/-
  The state of a device between two of its operations, and what each communication step does to it.

  The state is a function of five counters: how many halves of the device's own block it has stored, how many transfers it has
  started, how many arrivals and how many departures it has awaited, and how many pieces of the result it has stored.
-/
module

public import proofs.«01_k».proof.Proof.Sched

@[expose] public section

set_option maxRecDepth 16384

noncomputable section

namespace Cert.RingMatmul

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

abbrev 𝒱₀ : Variants := Variants.none

variable (m : (ℓ : Loc nD τ sig) → Buf (Elt F) ℓ)

/-! ## Cells and their records -/

/-- A device's cells: its barrier cell, and a departure (`true`) and an arrival (`false`) cell per transfer. -/
abbrev CI : Type := Option (Bool × Tr)
def csem : CI → SemLoc sig
  | none => .reg barS
  | some (true, t) => .dma (outQ t)
  | some (false, t) => .dma (inQ t)
def kcell (ck : Dev nD × CI) : GSem nD τ sig := ((ck.1 : Thread nD τ), csem ck.2)

/-- Every cell's invariant, at the names the launch allocated, and that every cell is at its first round. -/
def records (K : Dev nD × CI → ℕ) : sProp 𝕄 :=
  iprop((bigSep Finset.univ fun ck : Dev nD × CI => cellInv ER (rd m) (K ck) (kcell ck))
    ∗ bigSep Finset.univ fun ck : Dev nD × CI => reached ER (kcell ck) 0)

instance records_persistent (K : Dev nD × CI → ℕ) : BI.Persistent (records m K) := by unfold records; infer_instance

theorem records_inv (K : Dev nD × CI → ℕ) (ck : Dev nD × CI) : records m K ⊢ cellInv ER (rd m) (K ck) (kcell ck) := by
  unfold records
  have h : (bigSep Finset.univ fun ck : Dev nD × CI => (cellInv ER (rd m) (K ck) (kcell ck) : sProp 𝕄)) ⊢ cellInv ER (rd m) (K ck) (kcell ck) :=
    bigSep_elim (Finset.mem_univ ck)
  iintro ⟨H, -⟩
  iapply h; iexact H

theorem records_reached (K : Dev nD × CI → ℕ) (ck : Dev nD × CI) : records m K ⊢ reached ER (kcell ck) 0 := by
  unfold records
  have h : (bigSep Finset.univ fun ck : Dev nD × CI => (reached ER (kcell ck) 0 : sProp 𝕄)) ⊢ reached ER (kcell ck) 0 :=
    bigSep_elim (Finset.mem_univ ck)
  iintro ⟨-, H⟩
  iapply h; iexact H

/-! ## The state -/

/-- A transfer may start once its chunk is there: a half of the device's own block, or a chunk that arrived one hop before. -/
def ready (s b : ℕ) (t : Tr) : Bool := if t.2.1 = 0 then decide (t.2.2.val < s) else decide ((t.1, t.2.1 - 1, t.2.2) ∈ arrivals.take b)

/-- How far a transfer is: waiting for its chunk, ready, in flight, departed. -/
def outSt (s a b d : ℕ) (t : Tr) : ℕ :=
  if t ∈ leaves.take d then 3 else if t ∈ sends.take a then 2 else if ready s b t then 1 else 0

/-- What a device starts a transfer with, besides the chunk. -/
def tok (c : Dev nD) (t : Tr) : sProp 𝕄 :=
  iprop(dutyTok ER (outCell c t) 0 true ∗ dutyTok ER (inCell (t.dev c) t) 0 true ∗ raw (t.dev c) (toSlot t) t.2.2 ∗ atPos ER (outCell c t) 0 ∅ 0)

def resO (c : Dev nD) (t : Tr) : ℕ → sProp 𝕄
  | 0 => tok c t
  | 1 => iprop(tok c t ∗ outPay m c t)
  | 2 => iprop(atPos ER (outCell c t) 0 ∅ 0 ∗ cred (tallyAt (outCell c t) () N))
  | _ => iprop(outPay m c t ∗ semVal (outCell c t) 0)

def resI (c : Dev nD) (t : Tr) : Bool → sProp 𝕄
  | false => iprop(atPos ER (inCell c t) 0 ∅ 0 ∗ cred (tallyAt (inCell c t) () N))
  | true => iprop(pts fullShare.right c (toSlot t) t.2.2 (gathF m c)
      ∗ (if t ∈ FW then iprop(emp) else pts fullShare.left c (toSlot t) t.2.2 (gathF m c)) ∗ semVal (inCell c t) 0)

theorem resO_zero (c : Dev nD) (t : Tr) : resO m c t 0 = tok c t := rfl
theorem resO_one (c : Dev nD) (t : Tr) : resO m c t 1 = iprop(tok c t ∗ outPay m c t) := rfl
theorem resO_two (c : Dev nD) (t : Tr) : resO m c t 2 = iprop(atPos ER (outCell c t) 0 ∅ 0 ∗ cred (tallyAt (outCell c t) () N)) := rfl
theorem resO_three (c : Dev nD) (t : Tr) : resO m c t 3 = iprop(outPay m c t ∗ semVal (outCell c t) 0) := rfl
theorem resI_false (c : Dev nD) (t : Tr) : resI m c t false = iprop(atPos ER (inCell c t) 0 ∅ 0 ∗ cred (tallyAt (inCell c t) () N)) := rfl
theorem resI_true (c : Dev nD) (t : Tr) : resI m c t true = iprop(pts fullShare.right c (toSlot t) t.2.2 (gathF m c)
      ∗ (if t ∈ FW then iprop(emp) else pts fullShare.left c (toSlot t) t.2.2 (gathF m c)) ∗ semVal (inCell c t) 0) := rfl

def own (c : Dev nD) (p : Fin 2) (s : ℕ) : sProp 𝕄 := if p.val < s then pts fullShare.right c 0 p (gathF m c) else raw c 0 p

abbrev oneR : Rect S1 := Rect.unit (s := S1) ![0] S1.size inb_S1_S1_0

/-- The product of the two scales, and the device's columns of `w`, widened. -/
def scale (c : Dev nD) : F .f32 :=
  k0_pay1 (((Memref.whole cc0_stg2_0 : Memref sig .tc .smem S1 .f32).access oneR).read (Elt F) (sxstg m c) (Shape.Idx.first (numel1_S1.symm ▸ Nat.one_pos)))
    (((Memref.whole cc0_stg3_0 : Memref sig .tc .smem S1 .f32).access oneR).read (Elt F) (swstg m c) (Shape.Idx.first (numel1_S1.symm ▸ Nat.one_pos)))
def wide (c : Dev nD) : FVec F S4096x128 .bf16 := k0_pay2 (wstg m c)

theorem slot_inb (s : Fin 16) : ∀ a, (![s.val, 0, 0] : Fin 3 → Nat) a + S1x256x4096.size a ≤ S16x256x4096.size a := by revert s; decide
abbrev slotR (s : Fin 16) : Rect S16x256x4096 := Rect.unit (s := S16x256x4096) ![s.val, 0, 0] S1x256x4096.size (slot_inb s)
abbrev chunkR (s : Fin 16) (p : Fin 2) : Rect S16x256x4096 :=
  Rect.unit (s := S16x256x4096) ![s.val, 128 * p.val, 0] S1x128x4096.size (chunk_inb s p)

/-- A slot, and a half of a slot, as loads read them. -/
def slotV (c : Dev nD) (s : Fin 16) : Vec F S1x256x4096 .fp8e4m3 := gM.view.readAt (Elt F) (slotR s).toLoadRect (gathF m c)
def halfV (c : Dev nD) (s : Fin 16) (p : Fin 2) : Vec F S1x128x4096 .fp8e4m3 := gM.view.readAt (Elt F) (chunkR s p).toLoadRect (gathF m c)

/-- The result of device `c`: each block of rows is the product with the slot that holds that block of `x`; the last slot is
    multiplied a half at a time. -/
def outF (c : Dev nD) : Buf (Elt F) ((c : Thread nD τ).loc cc0_stg4_0) := fun i =>
  let r : Fin 4096 := i 0
  let j : Fin 128 := i 1
  let s : Fin 16 := back c ⟨r.val / 256, by omega⟩
  if s = 8 then k0_pay22 (scale m c) (wide m c) (halfV m c 8 ⟨r.val % 256 / 128, by omega⟩) (ix2 ⟨r.val % 128, Nat.mod_lt _ (by decide)⟩ j)
  else k0_pay5 (scale m c) (wide m c) (slotV m c s) (ix2 ⟨r.val % 256, Nat.mod_lt _ (by decide)⟩ j)

/-- When, among the stores of the result, the block of a slot, or of a half of the last slot, is stored. -/
def turnOf (s : Fin 16) (p : Fin 2) : ℕ := if s = 8 then 15 + p.val else if s.val < 8 then 2 * s.val - 1 else 2 * (16 - s.val)

/-- The result buffer with its first `e` pieces stored. -/
def outRes (c : Dev nD) (e : ℕ) : sProp 𝕄 :=
  iprop(∃ f : Buf (Elt F) ((c : Thread nD τ).loc cc0_stg4_0), ⌜∀ i : S4096x128.Idx,
      turnOf (back c ⟨(i 0).val / 256, by have : (i 0).val < 4096 := (i 0).isLt; omega⟩) ⟨(i 0).val % 256 / 128, by omega⟩ < e → f i = outF m c i⌝
    ∗ (((c : Thread nD τ).loc cc0_stg4_0) ↦{fullShare} f))

variable (K : Dev nD × CI → ℕ)

/-- The state of device `c`; `R` is what plays no part. -/
def St (c : Dev nD) (s a b d e : ℕ) (R : sProp 𝕄) : sProp 𝕄 :=
  iprop(records m K ∗ levAts L lv ∗ (∃ W, owes (c : Thread nD τ) (owed c (sends.drop a)) W)
    ∗ (bigSep UT fun t => resO m c t (outSt s a b d t)) ∗ (bigSep UT fun t => resI m c t (decide (t ∈ arrivals.take b)))
    ∗ own m c 0 s ∗ own m c 1 s
    ∗ (((c : Thread nD τ).loc cc0_stg0_0) ↦{fullShare} xstg m c) ∗ outRes m c e ∗ R)

/-- A family of resources in which one member changes. -/
theorem bigSep_at {ι : Type} [DecidableEq ι] {S : Finset ι} {Φ Ψ : ι → sProp 𝕄} {t : ι} (ht : t ∈ S) (h : ∀ t' ∈ S, t' ≠ t → Φ t' = Ψ t') :
    bigSep S Φ ⊢ iprop(Φ t ∗ (Ψ t -∗ bigSep S Ψ)) := by
  rw [bigSep_erase ht (Φ := Φ), bigSep_erase ht (Φ := Ψ),
    bigSep_congr (s := S.erase t) (Φ := Φ) (Ψ := Ψ) fun t' h' => h t' (Finset.mem_of_mem_erase h') (Finset.ne_of_mem_erase h')]
  show iprop(Φ t ∗ bigSep (S.erase t) Ψ) ⊢ iprop(Φ t ∗ (Ψ t -∗ iprop(Ψ t ∗ bigSep (S.erase t) Ψ)))
  iintro ⟨H, HR⟩
  isplitl [H]; · iexact H
  iintro H'
  isplitl [H'] <;> iassumption

end Cert.RingMatmul

end
-- ==== Proof.Steps.lean ====
/-
  What each communication step does to a device's state: a transfer started, an arrival awaited, a departure awaited.
-/
module

public import proofs.«01_k».proof.Proof.State

@[expose] public section

set_option maxRecDepth 16384

noncomputable section

namespace Cert.RingMatmul

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × CI → ℕ)

/-- The transfer started, or awaited, when `i` of the list have been. -/
abbrev nth (l : List Tr) (i : ℕ) : Tr := l.getD i (true, 0, 0)

/-! ## A transfer is started -/

/-- That the next transfer is ready, and that starting it concerns no other. -/
abbrev SendOK (s a b d : ℕ) (t : Tr) : Prop :=
  t ∈ UT ∧ sends.drop a = t :: sends.drop (a + 1) ∧ outSt s a b d t = 1 ∧ outSt s (a + 1) b d t = 2
    ∧ ∀ t' ∈ UT, t' ≠ t → outSt s a b d t' = outSt s (a + 1) b d t'

theorem send_step {c : Dev nD} {s a b d e : ℕ} {R : sProp 𝕄} {α : Type} {Q : α → sProp 𝕄} {t : Tr} (ok : SendOK s a b d t) {n : Dev nD} (hn : n = t.dev c)
    {hsc hsrc hdst hsem} {k : PUnit → Prog (TpuEff nD τ sig (Elt F) Λ₀ .tc) α}
    (hk : St m K c s (a + 1) b d e R ⊢ wp frame (wpE (defs₀ (F := F)) 𝒱₀ (c : Thread nD τ) none) Set.univ (k ⟨⟩) Q) :
    St m K c s a b d e R ⊢ wp frame (wpE (defs₀ (F := F)) 𝒱₀ (c : Thread nD τ) none) Set.univ
      (.op (.enqueueDma (chunk (fromSlot t) t.2.2) (.remote (Dev.tc n : Thread nD τ) (chunk (toSlot t) t.2.2) (.dma (outQ t)) hsc) (.dma (inQ t)) hsrc hdst hsem) k) Q := by
  subst hn
  obtain ⟨ht, hl, h1, h2, hrest⟩ := ok
  have hO := bigSep_at (Φ := fun t => resO m c t (outSt s a b d t)) (Ψ := fun t => resO m c t (outSt s (a + 1) b d t)) ht
    (fun t' ht' hne => by rw [hrest t' ht' hne])
  rw [h1, h2, resO_one, resO_two] at hO
  have ho : owed c (sends.drop a) = owed c (sends.drop (a + 1)) + tallyAt (inCell (t.dev c) t) () N := by rw [hl]; rfl
  unfold St
  iintro ⟨#Hrec, #Hlev, ⟨%W, HO⟩, Hout, Hin, Hown0, Hown1, Hx, Hres, HR⟩
  ihave Hat := hO $$ Hout
  unfold tok outPay raw pts
  icases Hat with ⟨⟨⟨Htok, Htok', ⟨%fd, Hdst⟩, Hat⟩, Hsrc⟩, Hback⟩
  ihave #Hi := (records_inv m K (c, some (true, t))) $$ Hrec
  ihave #Hi' := (records_inv m K (t.dev c, some (false, t))) $$ Hrec
  ihave #Hr := (records_reached m K (c, some (true, t))) $$ Hrec
  ihave #Hr' := (records_reached m K (t.dev c, some (false, t))) $$ Hrec
  iapply (Rounds.wp_send_pointsTo 𝒱₀ ER (rd m) (c : Thread nD τ) none (κ₁ := K (c, some (true, t))) (κ₂ := K (t.dev c, some (false, t)))
    (r₁ := 0) (r₂ := 0) (d₁ := true) (d₂ := true) (fd := fd) (sS := .dma (outQ t)) (sem := .dma (inQ t)) (c' := (t.dev c : Thread nD τ)) (src := chunk (fromSlot t) t.2.2) (dst := chunk (toSlot t) t.2.2)
    (by rw [duties_out m c ht]; exact Finset.mem_singleton_self _) (by rw [duties_in m (t.dev c) ht]; exact Finset.mem_singleton_self _)
    () () N (credit_chunk (toSlot t) t.2.2) (amount_out m c t true) (amount_in m (t.dev c) t true) (owed c (sends.drop (a + 1))) ho (W := W)
    (by rw [payload_out]; exact BI.Entails.refl _)
    (by rw [payload_in]; unfold inPay pts; exact Entails.of_eq (pointsTo_congr (landed m ht c fd)))) $$ [Hsrc Hdst HO Htok Htok']
  · isplitr; · iexact Hi
    isplitr; · iexact Hi'
    isplitl [Hsrc]; · iexact Hsrc
    isplitl [Hdst]; · iexact Hdst
    isplitl [HO]; · iexact HO
    isplitl [Htok]; · iexact Htok
    isplitr; · iexact Hr
    isplitl [Htok']; · iexact Htok'
    iexact Hr'
  iintro ⟨Hcr, HO⟩
  ihave Hout := Hback $$ [Hat Hcr]
  · isplitl [Hat] <;> iassumption
  iapply hk
  unfold St
  isplitr; · iexact Hrec
  isplitr; · iexact Hlev
  isplitl [HO]; · iexists W; iexact HO
  isplitl [Hout]; · iexact Hout
  isplitl [Hin]; · iexact Hin
  isplitl [Hown0]; · iexact Hown0
  isplitl [Hown1]; · iexact Hown1
  isplitl [Hx]; · iexact Hx
  isplitl [Hres] <;> iassumption

/-! ## A departure is awaited -/

abbrev LeaveOK (s a b d : ℕ) (t : Tr) : Prop :=
  t ∈ UT ∧ outSt s a b d t = 2 ∧ outSt s a b (d + 1) t = 3 ∧ ∀ t' ∈ UT, t' ≠ t → outSt s a b d t' = outSt s a b (d + 1) t'

theorem leave_step {c : Dev nD} {s a b d e : ℕ} {R : sProp 𝕄} {α : Type} {Q : α → sProp 𝕄} {t : Tr} (ok : LeaveOK s a b d t)
    {p q : Fin 16} {h h' : Fin 2} {hsrc hdst} {k : PUnit → Prog (TpuEff nD τ sig (Elt F) Λ₀ .tc) α}
    (hk : St m K c s a b (d + 1) e R ⊢ wp frame (wpE (defs₀ (F := F)) 𝒱₀ (c : Thread nD τ) none) Set.univ (k ⟨⟩) Q) :
    St m K c s a b d e R ⊢ wp frame (wpE (defs₀ (F := F)) 𝒱₀ (c : Thread nD τ) none) Set.univ
      (.op (.waitDma2 (outQ t) (chunk p h) (chunk q h') hsrc hdst) k) Q := by
  obtain ⟨ht, h1, h2, hrest⟩ := ok
  have hO := bigSep_at (Φ := fun t => resO m c t (outSt s a b d t)) (Ψ := fun t => resO m c t (outSt s a b (d + 1) t)) ht
    (fun t' ht' hne => by rw [hrest t' ht' hne])
  rw [h1, h2, resO_two, resO_three] at hO
  unfold St
  iintro ⟨#Hrec, #Hlev, ⟨%W, HO⟩, Hout, Hin, Hown0, Hown1, Hx, Hres, HR⟩
  ihave Hat := hO $$ Hout
  icases Hat with ⟨⟨Hat, Hcr⟩, Hback⟩
  ihave #Hi := (records_inv m K (c, some (true, t))) $$ Hrec
  iapply (Rounds.wp_wait_rest_token 𝒱₀ ER (rd m) (c : Thread nD τ) none (κ := K (c, some (true, t)))
      (wpE_waitDma2_eq 𝒱₀ (c : Thread nD τ) none Set.univ) (Set.mem_univ _) () (O := owed c (sends.drop a)) (W := W) (R := 0) (m := 0) (T := ∅)
      (by rw [Nat.zero_add]; exact (expect_out m c ht).symm)) $$ [Hcr HO Hat]
  · isplitr; · iexact Hi
    isplitl [Hcr]; · iexact Hcr
    isplitl [HO]; · iexact HO
    isplitr
    · iapply (mayWait_cut c (.dma (outQ t)) 0 (by unfold lv; rw [roleOf_out]; exact Nat.le_refl 0) (sends.drop a) fun t' _ => Nat.succ_pos _); iexact Hlev
    iexact Hat
  iintro ⟨HO, Hat, -, Hpay⟩
  ihave Hpay := (Entails.of_eq (rest_out m c ht)) $$ Hpay
  imod (Rounds.cell_close ER (rd m) (Set.mem_univ (K (c, some (true, t)))) (fun h => h) (R := 0 + 1) (duties_later m (outCell c t))) $$ [Hat] with Hz
  · isplitr; · iexact Hi
    iexact Hat
  ihave Hout := Hback $$ [Hpay Hz]
  · isplitl [Hpay] <;> iassumption
  iapply hk
  unfold St
  isplitr; · iexact Hrec
  isplitr; · iexact Hlev
  isplitl [HO]; · iexists (insert (SemLoc.dma (outQ t), ()) W); iexact HO
  isplitl [Hout]; · iexact Hout
  isplitl [Hin]; · iexact Hin
  isplitl [Hown0]; · iexact Hown0
  isplitl [Hown1]; · iexact Hown1
  isplitl [Hx]; · iexact Hx
  isplitl [Hres] <;> iassumption

/-! ## An arrival is awaited -/

/-- That the device may wait, and that the arrival makes ready the transfer that sends the chunk on, if any, and no other. -/
abbrev ArriveOK (s a b d : ℕ) (t : Tr) : Prop :=
  t ∈ UT ∧ (∀ t' ∈ sends.drop a, t.2.1.val + 2 < t'.2.1.val + 2)
    ∧ decide (t ∈ arrivals.take b) = false ∧ decide (t ∈ arrivals.take (b + 1)) = true
    ∧ (∀ t' ∈ UT, t' ≠ t → decide (t' ∈ arrivals.take b) = decide (t' ∈ arrivals.take (b + 1)))
    ∧ (t ∈ FW → outSt s a b d (onward t) = 0 ∧ outSt s a (b + 1) d (onward t) = 1
        ∧ ∀ t' ∈ UT, t' ≠ onward t → outSt s a b d t' = outSt s a (b + 1) d t')
    ∧ (t ∉ FW → ∀ t' ∈ UT, outSt s a b d t' = outSt s a (b + 1) d t')

set_option synthInstance.maxSize 2000 in
set_option synthInstance.maxHeartbeats 400000 in
instance arriveOK_decidable (s a b d : ℕ) (t : Tr) : Decidable (ArriveOK s a b d t) := by unfold ArriveOK; infer_instance

theorem onward_hop : ∀ t ∈ FW, (onward t).2.1 ≠ 0 ∧ (onward t).2.2 = t.2.2 := by decide

theorem arrived (c : Dev nD) {s a b d : ℕ} {t : Tr} (ok : ArriveOK s a b d t) :
    iprop((bigSep UT fun t => resO m c t (outSt s a b d t)) ∗ inPay m c t) ⊢ iprop((bigSep UT fun t => resO m c t (outSt s a (b + 1) d t))
      ∗ pts fullShare.right c (toSlot t) t.2.2 (gathF m c) ∗ (if t ∈ FW then iprop(emp) else pts fullShare.left c (toSlot t) t.2.2 (gathF m c))) := by
  obtain ⟨ht, -, -, -, -, hf, hn⟩ := ok
  have hsplit : inPay m c t ⊢ iprop(pts fullShare.left c (toSlot t) t.2.2 (gathF m c) ∗ pts fullShare.right c (toSlot t) t.2.2 (gathF m c)) :=
    (pointsTo_share (PosShare.mem_left_op_right fullShare)).1
  by_cases hF : t ∈ FW
  · obtain ⟨h1, h2, hrest⟩ := hf hF
    have hO := bigSep_at (Φ := fun t => resO m c t (outSt s a b d t)) (Ψ := fun t => resO m c t (outSt s a (b + 1) d t)) (onward_mem t hF)
      (fun t' ht' hne => by rw [hrest t' ht' hne])
    rw [h1, h2, resO_zero, resO_one] at hO
    have hl : pts fullShare.left c (toSlot t) t.2.2 (gathF m c) ⊢ outPay m c (onward t) := by
      unfold outPay lent
      rw [if_neg (onward_hop t hF).1, fromSlot_onward t hF, (onward_hop t hF).2]
    rw [if_pos hF]
    iintro ⟨Hout, Hp⟩
    ihave Hp := hsplit $$ Hp
    icases Hp with ⟨Hl, Hr⟩
    ihave Hat := hO $$ Hout
    icases Hat with ⟨Htok, Hback⟩
    isplitl [Htok Hback Hl]
    · iapply Hback
      isplitl [Htok]; · iexact Htok
      iapply hl; iexact Hl
    isplitl [Hr]; · iexact Hr
    iempintro
  · have e : bigSep UT (fun t => resO m c t (outSt s a b d t)) = bigSep UT (fun t => resO m c t (outSt s a (b + 1) d t)) :=
      bigSep_congr fun t' ht' => by rw [hn hF t' ht']
    rw [if_neg hF, e]
    iintro ⟨Hout, Hp⟩
    ihave Hp := hsplit $$ Hp
    icases Hp with ⟨Hl, Hr⟩
    isplitl [Hout]; · iexact Hout
    isplitl [Hr] <;> iassumption

theorem arrive_step {c : Dev nD} {s a b d e : ℕ} {R : sProp 𝕄} {α : Type} {Q : α → sProp 𝕄} {t : Tr} (ok : ArriveOK s a b d t)
    {p q : Fin 16} {h h' : Fin 2} {hsrc hdst} {k : PUnit → Prog (TpuEff nD τ sig (Elt F) Λ₀ .tc) α}
    (hk : St m K c s a (b + 1) d e R ⊢ wp frame (wpE (defs₀ (F := F)) 𝒱₀ (c : Thread nD τ) none) Set.univ (k ⟨⟩) Q) :
    St m K c s a b d e R ⊢ wp frame (wpE (defs₀ (F := F)) 𝒱₀ (c : Thread nD τ) none) Set.univ
      (.op (.waitDma2 (inQ t) (chunk p h) (chunk q h') hsrc hdst) k) Q := by
  have harr := arrived m c ok
  obtain ⟨ht, hlev, h1, h2, hrest, -⟩ := ok
  have hI := bigSep_at (Φ := fun t => resI m c t (decide (t ∈ arrivals.take b))) (Ψ := fun t => resI m c t (decide (t ∈ arrivals.take (b + 1)))) ht
    (fun t' ht' hne => by rw [hrest t' ht' hne])
  rw [h1, h2, resI_false, resI_true] at hI
  unfold St
  iintro ⟨#Hrec, #Hlev, ⟨%W, HO⟩, Hout, Hin, Hown0, Hown1, Hx, Hres, HR⟩
  ihave Hat := hI $$ Hin
  icases Hat with ⟨⟨Hat, Hcr⟩, Hback⟩
  ihave #Hi := (records_inv m K (c, some (false, t))) $$ Hrec
  iapply (Rounds.wp_wait_rest_token 𝒱₀ ER (rd m) (c : Thread nD τ) none (κ := K (c, some (false, t)))
      (wpE_waitDma2_eq 𝒱₀ (c : Thread nD τ) none Set.univ) (Set.mem_univ _) () (O := owed c (sends.drop a)) (W := W) (R := 0) (m := 0) (T := ∅)
      (by rw [Nat.zero_add]; exact (expect_in m c ht).symm)) $$ [Hcr HO Hat]
  · isplitr; · iexact Hi
    isplitl [Hcr]; · iexact Hcr
    isplitl [HO]; · iexact HO
    isplitr
    · iapply (mayWait_cut c (.dma (inQ t)) (t.2.1.val + 2) (lv_in c t).le (sends.drop a) hlev); iexact Hlev
    iexact Hat
  iintro ⟨HO, Hat, -, Hpay⟩
  ihave Hpay := (Entails.of_eq (rest_in m c ht)) $$ Hpay
  imod (Rounds.cell_close ER (rd m) (Set.mem_univ (K (c, some (false, t)))) (fun h => h) (R := 0 + 1) (duties_later m (inCell c t))) $$ [Hat] with Hz
  · isplitr; · iexact Hi
    iexact Hat
  ihave Hout := harr $$ [Hout Hpay]
  · isplitl [Hout] <;> iassumption
  icases Hout with ⟨Hout, Hr, Hl⟩
  ihave Hin := Hback $$ [Hr Hl Hz]
  · isplitl [Hr]; · iexact Hr
    isplitl [Hl] <;> iassumption
  iapply hk
  unfold St
  isplitr; · iexact Hrec
  isplitr; · iexact Hlev
  isplitl [HO]; · iexists (insert (SemLoc.dma (inQ t), ()) W); iexact HO
  isplitl [Hout]; · iexact Hout
  isplitl [Hin]; · iexact Hin
  isplitl [Hown0]; · iexact Hown0
  isplitl [Hown1]; · iexact Hown1
  isplitl [Hx]; · iexact Hx
  isplitl [Hres] <;> iassumption

end Cert.RingMatmul

end
-- ==== Proof.Local.lean ====
/-
  What the stores of a device's own block do to its state.
-/
module

public import proofs.«01_k».proof.Proof.Steps

@[expose] public section

set_option maxRecDepth 16384

noncomputable section

namespace Cert.RingMatmul

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × CI → ℕ)

abbrev xM : Memref sig .tc .vmem S256x4096 .fp8e4m3 := Memref.whole cc0_stg0_0
abbrev oM : Memref sig .tc .vmem S4096x128 .f32 := Memref.whole cc0_stg4_0

theorem back_back : ∀ c s : Fin 16, back c (back c s) = s := by decide +kernel

/-! ## Sets of elements -/

theorem slot_set (s : Fin 16) : gM.view.setOn (slotR s).toLoadRect.set ⊆ cset s 0 ∪ cset s 1 := by
  show ((slotR s).set.map _) ⊆ _
  refine (Finset.map_refl (s := (slotR s).set)).le.trans ?_
  intro i hi
  rw [Rect.mem_set_unit] at hi
  have h0 : s.val ≤ (i 0).val ∧ (i 0).val < s.val + 1 := hi 0
  have h1 : 0 ≤ (i 1).val ∧ (i 1).val < 0 + 256 := hi 1
  rw [Finset.mem_union, mem_cset, mem_cset]
  have e0 : ((0 : Fin 2) : ℕ) = 0 := rfl
  have e1 : ((1 : Fin 2) : ℕ) = 1 := rfl
  rw [e0, e1]
  omega

theorem half_set (s : Fin 16) (p : Fin 2) : gM.view.setOn (chunkR s p).toLoadRect.set ⊆ cset s p := by
  show ((chunkR s p).set.map _) ⊆ _
  exact (Finset.map_refl (s := (chunkR s p).set)).le

/-! ## The device's own block -/

/-- A half of the device's own block, as loaded from its staging. -/
theorem xhalf_inb (p : Fin 2) : ∀ a, (![128 * p.val, 0] : Fin 2 → Nat) a + S128x4096.size a ≤ S256x4096.size a := by revert p; decide
abbrev xhalfR (p : Fin 2) : Rect S256x4096 := Rect.unit (s := S256x4096) ![128 * p.val, 0] S128x4096.size (xhalf_inb p)
def xhalf (c : Dev nD) (p : Fin 2) : Vec F S128x4096 .fp8e4m3 := xM.view.readAt (Elt F) (xhalfR p).toLoadRect (xstg m c)

/-- The last two coordinates. -/
def tail2 (z : S1x128x4096.Idx) : S128x4096.Idx := ix2 (d := ![128, 4096]) (z 1) (z 2)

theorem drop_lead (h : S1x128x4096.numel = S128x4096.numel) (z : S1x128x4096.Idx) : Shape.reshapeEquiv h z = tail2 z := by
  have e : Shape.reshapeEquiv h.symm (tail2 z) = z := by
    refine (Shape.reshapeEquiv_cons_one (d := ![128, 4096]) h.symm (tail2 z)).trans ?_
    funext a
    have : (z 0).val < 1 := (z 0).isLt
    fin_cases a
    · apply Fin.ext
      show 0 = (z 0).val; omega
    · rfl
    · rfl
  refine (congrArg (Shape.reshapeEquiv h) e.symm).trans ?_
  rw [Shape.reshapeEquiv_reshapeEquiv, Shape.reshapeEquiv_self]

theorem back_zero : ∀ c : Dev nD, back c 0 = c := by decide

/-- Stored in slot 0, it is what slot 0 is to hold. -/
theorem own_stored (c : Dev nD) (p : Fin 2) (f : Buf (Elt F) ((c : Thread nD τ).loc cc0_scratch0)) :
    ∀ i ∈ cset 0 p, (gM.access (chunkR 0 p)).write (Elt F) f (k0_pay3 (xhalf m c p)) Finset.univ i = gathF m c i := by
  intro i hi
  have hi' : i ∈ (chunkR 0 p).set := hi
  rw [← Rect.map_emb_univ] at hi'
  obtain ⟨z, -, rfl⟩ := Finset.mem_map.mp hi'
  refine (View.write_emb_of_mem (v := gM.access (chunkR 0 p)) f _ (x := z) (Finset.mem_univ z)).trans ?_
  refine Eq.trans ?_ (gathF_emb m c 0 p z).symm
  show k0_pay3 (xhalf m c p) z = _
  rw [back_zero]
  unfold k0_pay3 shapeCast
  dsimp only
  rw [Shape.reshapeEquiv_reshapeEquiv, drop_lead]
  unfold xhalf
  show xstg m c _ = _
  congr 1
  funext a
  fin_cases a
  · apply Fin.ext
    show 128 * p.val + 1 * (z 1).val = 128 * p.val + (z 1).val; omega
  · apply Fin.ext
    show 0 + 1 * (z 2).val = (z 2).val; omega

abbrev OwnOK (s a b d : ℕ) (p : Fin 2) : Prop :=
  p.val = s ∧ outSt s a b d (true, 0, p) = 0 ∧ outSt (s + 1) a b d (true, 0, p) = 1 ∧ outSt s a b d (false, 0, p) = 0 ∧ outSt (s + 1) a b d (false, 0, p) = 1
    ∧ ∀ t' ∈ UT, t' ≠ (true, 0, p) → t' ≠ (false, 0, p) → outSt s a b d t' = outSt (s + 1) a b d t'

/-- Two members of a family of resources. -/
theorem bigSep_at₂ {ι : Type} [DecidableEq ι] {S : Finset ι} {Φ Ψ : ι → sProp 𝕄} {t u : ι} (ht : t ∈ S) (hu : u ∈ S) (htu : u ≠ t)
    (h : ∀ t' ∈ S, t' ≠ t → t' ≠ u → Φ t' = Ψ t') : bigSep S Φ ⊢ iprop(Φ t ∗ Φ u ∗ (Ψ t -∗ Ψ u -∗ bigSep S Ψ)) := by
  rw [bigSep_erase ht (Φ := Φ), bigSep_erase ht (Φ := Ψ)]
  show iprop(Φ t ∗ bigSep (S.erase t) Φ) ⊢ iprop(Φ t ∗ Φ u ∗ (Ψ t -∗ Ψ u -∗ iprop(Ψ t ∗ bigSep (S.erase t) Ψ)))
  have h' := bigSep_at (S := S.erase t) (Φ := Φ) (Ψ := Ψ) (t := u) (Finset.mem_erase.mpr ⟨htu, hu⟩)
    fun t' ht' hne => h t' (Finset.mem_of_mem_erase ht') (Finset.ne_of_mem_erase ht') hne
  iintro ⟨H, HR⟩
  ihave HR := h' $$ HR
  icases HR with ⟨Hu, Hb⟩
  isplitl [H]; · iexact H
  isplitl [Hu]; · iexact Hu
  iintro H H'
  isplitl [H]; · iexact H
  iapply Hb; iexact H'

theorem own_at (c : Dev nD) (p : Fin 2) {s : ℕ} (h : p.val = s) :
    iprop(own m c 0 s ∗ own m c 1 s) ⊢ iprop(raw c 0 p ∗ (pts fullShare.right c 0 p (gathF m c) -∗ iprop(own m c 0 (s + 1) ∗ own m c 1 (s + 1)))) := by
  subst h
  unfold own
  match p with
  | 0 =>
    rw [if_neg (show ¬ ((0 : Fin 2).val < (0 : Fin 2).val) by decide), if_neg (show ¬ ((1 : Fin 2).val < (0 : Fin 2).val) by decide),
      if_pos (show ((0 : Fin 2).val < (0 : Fin 2).val + 1) by decide), if_neg (show ¬ ((1 : Fin 2).val < (0 : Fin 2).val + 1) by decide)]
    iintro ⟨H0, H1⟩
    isplitl [H0]; · iexact H0
    iintro H
    isplitl [H] <;> iassumption
  | 1 =>
    rw [if_pos (show ((0 : Fin 2).val < (1 : Fin 2).val) by decide), if_neg (show ¬ ((1 : Fin 2).val < (1 : Fin 2).val) by decide),
      if_pos (show ((0 : Fin 2).val < (1 : Fin 2).val + 1) by decide), if_pos (show ((1 : Fin 2).val < (1 : Fin 2).val + 1) by decide)]
    iintro ⟨H0, H1⟩
    isplitl [H1]; · iexact H1
    iintro H
    isplitl [H0] <;> iassumption

/-- A stored half splits: a share for each direction's first transfer, and one that stays. -/
theorem own_split (c : Dev nD) (p : Fin 2) :
    pts fullShare c 0 p (gathF m c) ⊢ iprop(outPay m c (true, 0, p) ∗ outPay m c (false, 0, p) ∗ pts fullShare.right c 0 p (gathF m c)) := by
  have h1 : pts fullShare c 0 p (gathF m c) ⊢ iprop(pts fullShare.left c 0 p (gathF m c) ∗ pts fullShare.right c 0 p (gathF m c)) :=
    (pointsTo_share (PosShare.mem_left_op_right fullShare)).1
  have e1 : outPay m c (true, 0, p) = pts fullShare.left.left c 0 p (gathF m c) := by
    unfold outPay lent; rw [if_pos rfl, if_pos rfl, hop_zero_from _ rfl]
  have e2 : outPay m c (false, 0, p) = pts fullShare.left.right c 0 p (gathF m c) := by
    unfold outPay lent; rw [if_pos rfl, if_neg Bool.false_ne_true, hop_zero_from _ rfl]
  have h2 : pts fullShare.left c 0 p (gathF m c) ⊢ iprop(outPay m c (true, 0, p) ∗ outPay m c (false, 0, p)) := by
    rw [e1, e2]; exact (pointsTo_share (PosShare.mem_left_op_right fullShare.left)).1
  iintro H
  ihave H := h1 $$ H
  icases H with ⟨Hl, Hr⟩
  ihave Hl := h2 $$ Hl
  icases Hl with ⟨Ha, Hb⟩
  isplitl [Ha]; · iexact Ha
  isplitl [Hb] <;> iassumption

theorem own_mem : ∀ p : Fin 2, (true, 0, p) ∈ UT ∧ (false, 0, p) ∈ UT := by decide

theorem own_store_step {c : Dev nD} {s a b d e : ℕ} {R : sProp 𝕄} {α : Type} {Q : α → sProp 𝕄} {p : Fin 2} (ok : OwnOK s a b d p)
    {v : (chunkR 0 p).shape.Idx → Elt F .fp8e4m3} (hv : v = k0_pay3 (xhalf m c p)) {h1 h2} {k : PUnit → Prog (TpuEff nD τ sig (Elt F) Λ₀ .tc) α}
    (hk : St m K c (s + 1) a b d e R ⊢ wp frame (wpE (defs₀ (F := F)) 𝒱₀ (c : Thread nD τ) none) Set.univ (k ⟨⟩) Q) :
    St m K c s a b d e R ⊢ wp frame (wpE (defs₀ (F := F)) 𝒱₀ (c : Thread nD τ) none) Set.univ
      (.op (.store gM (chunkR 0 p) v Finset.univ h1 h2) k) Q := by
  subst hv
  obtain ⟨hs, ht1, ht2, hu1, hu2, hrest⟩ := ok
  have hO := bigSep_at₂ (Φ := fun t => resO m c t (outSt s a b d t)) (Ψ := fun t => resO m c t (outSt (s + 1) a b d t)) (t := (true, 0, p)) (u := (false, 0, p))
    (own_mem p).1 (own_mem p).2 (by simp) (fun t' ht' h1 h2 => by rw [hrest t' ht' h1 h2])
  rw [ht1, ht2, hu1, hu2, resO_zero, resO_one, resO_zero, resO_one] at hO
  have how := own_at m c p hs
  unfold St
  iintro ⟨#Hrec, #Hlev, HO, Hout, Hin, Hown0, Hown1, Hx, Hres, HR⟩
  ihave How := how $$ [Hown0 Hown1]
  · isplitl [Hown0] <;> iassumption
  icases How with ⟨Hraw, Hwb⟩
  unfold raw
  icases Hraw with ⟨%f, Hraw⟩
  ihave Hraw := (Entails.of_eq (pts_eq fullShare c 0 p f)) $$ Hraw
  iapply (wp_store 𝒱₀ (c : Thread nD τ) none Set.univ (m := gM) (r := chunkR 0 p) (Mk := Finset.univ) (S := cset 0 p)
    (by rw [show (gM.access (chunkR 0 p)).setOn Finset.univ = (chunkR 0 p).set from View.set_slice_whole _ _])) $$ Hraw
  iintro Hraw
  ihave Hraw := (Entails.of_eq ((pointsTo_congr (own_stored m c p f)).trans (pts_eq fullShare c 0 p (gathF m c)).symm)) $$ Hraw
  ihave Hraw := (own_split m c p) $$ Hraw
  icases Hraw with ⟨Ha, Hb, Hr⟩
  ihave Hown := Hwb $$ Hr
  icases Hown with ⟨Hown0, Hown1⟩
  ihave Hat := hO $$ Hout
  icases Hat with ⟨Ht, Hu, Hback⟩
  ihave Hback := Hback $$ [Ht Ha]
  · isplitl [Ht] <;> iassumption
  ihave Hout := Hback $$ [Hu Hb]
  · isplitl [Hu] <;> iassumption
  iapply hk
  unfold St
  isplitr; · iexact Hrec
  isplitr; · iexact Hlev
  isplitl [HO]; · iexact HO
  isplitl [Hout]; · iexact Hout
  isplitl [Hin]; · iexact Hin
  isplitl [Hown0]; · iexact Hown0
  isplitl [Hown1]; · iexact Hown1
  isplitl [Hx]; · iexact Hx
  isplitl [Hres] <;> iassumption

end Cert.RingMatmul

end
-- ==== Proof.Loads.lean ====
/-
  What loads do to a device's state, and the stores of the result.
-/
module

public import proofs.«01_k».proof.Proof.Local

@[expose] public section

set_option maxRecDepth 16384

noncomputable section

namespace Cert.RingMatmul

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × CI → ℕ)

/-! ## Loads -/

/-- A load of the staged block. -/
theorem x_load_step {c : Dev nD} {s a b d e : ℕ} {R : sProp 𝕄} {α : Type} {Q : α → sProp 𝕄} {r : LoadRect S256x4096} {h1}
    {k : (r.shape.Idx → Elt F .fp8e4m3) → Prog (TpuEff nD τ sig (Elt F) Λ₀ .tc) α}
    (hk : St m K c s a b d e R ⊢ wp frame (wpE (defs₀ (F := F)) 𝒱₀ (c : Thread nD τ) none) Set.univ (k (xM.view.readAt (Elt F) r (xstg m c))) Q) :
    St m K c s a b d e R ⊢ wp frame (wpE (defs₀ (F := F)) 𝒱₀ (c : Thread nD τ) none) Set.univ (.op (.load xM r h1) k) Q := by
  unfold St
  iintro ⟨#Hrec, #Hlev, HO, Hout, Hin, Hown0, Hown1, Hx, Hres, HR⟩
  iapply (wp_load 𝒱₀ (c : Thread nD τ) none Set.univ (m := xM) (Finset.subset_univ _)) $$ Hx
  iintro Hx
  iapply hk
  unfold St
  isplitr; · iexact Hrec
  isplitr; · iexact Hlev
  isplitl [HO]; · iexact HO
  isplitl [Hout]; · iexact Hout
  isplitl [Hin]; · iexact Hin
  isplitl [Hown0]; · iexact Hown0
  isplitl [Hown1]; · iexact Hown1
  isplitl [Hx]; · iexact Hx
  isplitl [Hres] <;> iassumption

/-- A load of a half of slot 0 not stored yet, whose value is not used. -/
theorem raw_load_step {c : Dev nD} {s a b d e : ℕ} {R : sProp 𝕄} {α : Type} {Q : α → sProp 𝕄} {p : Fin 2} (hp : p.val = s) {h1}
    {k : ((chunkR 0 p).toLoadRect.shape.Idx → Elt F .fp8e4m3) → Prog (TpuEff nD τ sig (Elt F) Λ₀ .tc) α}
    (hk : ∀ v, St m K c s a b d e R ⊢ wp frame (wpE (defs₀ (F := F)) 𝒱₀ (c : Thread nD τ) none) Set.univ (k v) Q) :
    St m K c s a b d e R ⊢ wp frame (wpE (defs₀ (F := F)) 𝒱₀ (c : Thread nD τ) none) Set.univ (.op (.load gM (chunkR 0 p).toLoadRect h1) k) Q := by
  have how : iprop(own m c 0 s ∗ own m c 1 s) ⊢ iprop(raw c 0 p ∗ (raw c 0 p -∗ iprop(own m c 0 s ∗ own m c 1 s))) := by
    subst hp
    unfold own
    match p with
    | 0 =>
      rw [if_neg (show ¬ ((0 : Fin 2).val < (0 : Fin 2).val) by decide)]
      iintro ⟨H0, H1⟩
      isplitl [H0]; · iexact H0
      iintro H
      isplitl [H] <;> iassumption
    | 1 =>
      rw [if_neg (show ¬ ((1 : Fin 2).val < (1 : Fin 2).val) by decide)]
      iintro ⟨H0, H1⟩
      isplitl [H1]; · iexact H1
      iintro H
      isplitl [H0] <;> iassumption
  unfold St
  iintro ⟨#Hrec, #Hlev, HO, Hout, Hin, Hown0, Hown1, Hx, Hres, HR⟩
  ihave How := how $$ [Hown0 Hown1]
  · isplitl [Hown0] <;> iassumption
  icases How with ⟨Hraw, Hwb⟩
  unfold raw
  icases Hraw with ⟨%f, Hraw⟩
  ihave Hraw := (Entails.of_eq (pts_eq fullShare c 0 p f)) $$ Hraw
  iapply (wp_load 𝒱₀ (c : Thread nD τ) none Set.univ (m := gM) (half_set 0 p)) $$ Hraw
  iintro Hraw
  ihave Hraw := (Entails.of_eq (pts_eq fullShare c 0 p f).symm) $$ Hraw
  ihave Hown := Hwb $$ [Hraw]
  · iexists f; iexact Hraw
  icases Hown with ⟨Hown0, Hown1⟩
  iapply hk
  unfold St
  isplitr; · iexact Hrec
  isplitr; · iexact Hlev
  isplitl [HO]; · iexact HO
  isplitl [Hout]; · iexact Hout
  isplitl [Hin]; · iexact Hin
  isplitl [Hown0]; · iexact Hown0
  isplitl [Hown1]; · iexact Hown1
  isplitl [Hx]; · iexact Hx
  isplitl [Hres] <;> iassumption

/-- The transfer that fills a half of a slot. -/
def filler (s : Fin 16) (p : Fin 2) : Tr :=
  if s.val < 8 ∨ (s.val = 8 ∧ p = 0) then (true, ⟨(s.val + 7) % 8, Nat.mod_lt _ (by decide)⟩, p) else (false, ⟨(15 - s.val) % 8, Nat.mod_lt _ (by decide)⟩, p)

theorem filler_spec : ∀ s : Fin 16, s ≠ 0 → ∀ p : Fin 2, filler s p ∈ UT ∧ toSlot (filler s p) = s ∧ (filler s p).2.2 = p := by decide +kernel

/-- That a half of a slot is there. -/
abbrev There (s b : ℕ) (sl : Fin 16) (p : Fin 2) : Prop := if sl = 0 then s = 2 else filler sl p ∈ arrivals.take b

/-- The resources of the gather buffer's halves. -/
def held (c : Dev nD) (s b : ℕ) : sProp 𝕄 :=
  iprop((bigSep UT fun t => resI m c t (decide (t ∈ arrivals.take b))) ∗ own m c 0 s ∗ own m c 1 s)

/-- A share of a half that is there can be taken and put back. -/
theorem half_acc (c : Dev nD) {s b : ℕ} {sl : Fin 16} {p : Fin 2} (h : There s b sl p) :
    held m c s b ⊢ iprop(pts fullShare.right c sl p (gathF m c) ∗ (pts fullShare.right c sl p (gathF m c) -∗ held m c s b)) := by
  unfold held
  by_cases h0 : sl = 0
  · rw [There, if_pos h0] at h
    subst h0 h
    unfold own
    rw [if_pos (show ((0 : Fin 2).val < 2) by decide), if_pos (show ((1 : Fin 2).val < 2) by decide)]
    match p with
    | 0 =>
      iintro ⟨HI, H0, H1⟩
      isplitl [H0]; · iexact H0
      iintro H0
      isplitl [HI]; · iexact HI
      isplitl [H0] <;> iassumption
    | 1 =>
      iintro ⟨HI, H0, H1⟩
      isplitl [H1]; · iexact H1
      iintro H1
      isplitl [HI]; · iexact HI
      isplitl [H0] <;> iassumption
  · rw [There, if_neg h0] at h
    obtain ⟨hU, hs, hp⟩ := filler_spec sl h0 p
    have hI := bigSep_at (Φ := fun t => resI m c t (decide (t ∈ arrivals.take b))) (Ψ := fun t => resI m c t (decide (t ∈ arrivals.take b))) hU
      (fun t' ht' hne => rfl)
    rw [decide_eq_true h, resI_true, hs, hp] at hI
    iintro ⟨HI, H0, H1⟩
    ihave HI := hI $$ HI
    icases HI with ⟨⟨Hp, Hq, Hz⟩, Hback⟩
    isplitl [Hp]; · iexact Hp
    iintro Hp
    isplitl [Hp Hq Hz Hback]
    · iapply Hback
      isplitl [Hp]; · iexact Hp
      isplitl [Hq] <;> iassumption
    isplitl [H0] <;> iassumption

/-- Likewise of both halves of a slot at once. -/
theorem slot_acc (c : Dev nD) {s b : ℕ} {sl : Fin 16} (h : ∀ p, There s b sl p) :
    held m c s b ⊢ iprop((((c : Thread nD τ).loc cc0_scratch0) ↦[cset sl 0 ∪ cset sl 1]{fullShare.right} gathF m c)
      ∗ ((((c : Thread nD τ).loc cc0_scratch0) ↦[cset sl 0 ∪ cset sl 1]{fullShare.right} gathF m c) -∗ held m c s b)) := by
  have hd : Disjoint (cset sl 0) (cset sl 1) := cset_disjoint (by simp)
  have hu : (((c : Thread nD τ).loc cc0_scratch0) ↦[cset sl 0 ∪ cset sl 1]{fullShare.right} gathF m c : sProp 𝕄)
      ⊣⊢ iprop(pts fullShare.right c sl 0 (gathF m c) ∗ pts fullShare.right c sl 1 (gathF m c)) := by
    rw [pts_eq, pts_eq]; exact pointsTo_union hd
  have h2 : held m c s b ⊢ iprop((pts fullShare.right c sl 0 (gathF m c) ∗ pts fullShare.right c sl 1 (gathF m c))
      ∗ ((pts fullShare.right c sl 0 (gathF m c) ∗ pts fullShare.right c sl 1 (gathF m c)) -∗ held m c s b)) := by
    by_cases h0 : sl = 0
    · have hs : s = 2 := by have := h 0; rwa [There, if_pos h0] at this
      subst h0 hs
      unfold held own
      rw [if_pos (show ((0 : Fin 2).val < 2) by decide), if_pos (show ((1 : Fin 2).val < 2) by decide)]
      iintro ⟨HI, H0, H1⟩
      isplitl [H0 H1]
      · isplitl [H0] <;> iassumption
      iintro ⟨H0, H1⟩
      isplitl [HI]; · iexact HI
      isplitl [H0] <;> iassumption
    · have ha := h 0
      have hb := h 1
      rw [There, if_neg h0] at ha hb
      obtain ⟨hU, hs, hp⟩ := filler_spec sl h0 0
      obtain ⟨hU', hs', hp'⟩ := filler_spec sl h0 1
      have hI := bigSep_at₂ (Φ := fun t => resI m c t (decide (t ∈ arrivals.take b))) (Ψ := fun t => resI m c t (decide (t ∈ arrivals.take b))) hU hU'
        (fun e => by rw [e, hp] at hp'; exact absurd hp' (by decide)) (fun t' ht' _ _ => rfl)
      rw [decide_eq_true ha, decide_eq_true hb, resI_true, resI_true, hs, hp, hs', hp'] at hI
      unfold held
      iintro ⟨HI, H0, H1⟩
      ihave HI := hI $$ HI
      icases HI with ⟨⟨Hp, Hq, Hz⟩, ⟨Hp', Hq', Hz'⟩, Hback⟩
      isplitl [Hp Hp']
      · isplitl [Hp] <;> iassumption
      iintro ⟨Hp, Hp'⟩
      ihave Hback := Hback $$ [Hp Hq Hz]
      · isplitl [Hp]; · iexact Hp
        isplitl [Hq] <;> iassumption
      ihave HI := Hback $$ [Hp' Hq' Hz']
      · isplitl [Hp']; · iexact Hp'
        isplitl [Hq'] <;> iassumption
      isplitl [HI]; · iexact HI
      isplitl [H0] <;> iassumption
  iintro H
  ihave H := h2 $$ H
  icases H with ⟨H, Hb⟩
  isplitl [H]
  · iapply hu.2; iexact H
  iintro H
  iapply Hb
  iapply hu.1; iexact H

theorem St_held (c : Dev nD) (s a b d e : ℕ) (R : sProp 𝕄) :
    St m K c s a b d e R ⊣⊢ iprop(held m c s b ∗ (held m c s b -∗ St m K c s a b d e R)) := by
  constructor
  · unfold St held
    iintro ⟨#Hrec, #Hlev, HO, Hout, Hin, Hown0, Hown1, Hx, Hres, HR⟩
    isplitl [Hin Hown0 Hown1]
    · isplitl [Hin]; · iexact Hin
      isplitl [Hown0] <;> iassumption
    iintro ⟨Hin, Hown0, Hown1⟩
    isplitr; · iexact Hrec
    isplitr; · iexact Hlev
    isplitl [HO]; · iexact HO
    isplitl [Hout]; · iexact Hout
    isplitl [Hin]; · iexact Hin
    isplitl [Hown0]; · iexact Hown0
    isplitl [Hown1]; · iexact Hown1
    isplitl [Hx]; · iexact Hx
    isplitl [Hres] <;> iassumption
  · iintro ⟨H, Hw⟩
    iapply Hw; iexact H

/-- A load of a slot both of whose halves are there. -/
theorem slot_load_step {c : Dev nD} {s a b d e : ℕ} {R : sProp 𝕄} {α : Type} {Q : α → sProp 𝕄} {sl : Fin 16} (ok : ∀ p, There s b sl p) {h1}
    {k : ((slotR sl).toLoadRect.shape.Idx → Elt F .fp8e4m3) → Prog (TpuEff nD τ sig (Elt F) Λ₀ .tc) α}
    (hk : St m K c s a b d e R ⊢ wp frame (wpE (defs₀ (F := F)) 𝒱₀ (c : Thread nD τ) none) Set.univ (k (slotV m c sl)) Q) :
    St m K c s a b d e R ⊢ wp frame (wpE (defs₀ (F := F)) 𝒱₀ (c : Thread nD τ) none) Set.univ (.op (.load gM (slotR sl).toLoadRect h1) k) Q := by
  have ha := slot_acc m c ok
  refine (St_held m K c s a b d e R).1.trans ?_
  iintro ⟨H, HS⟩
  ihave H := ha $$ H
  icases H with ⟨H, Hb⟩
  iapply (wp_load 𝒱₀ (c : Thread nD τ) none Set.univ (m := gM) (slot_set sl)) $$ H
  iintro H
  ihave H := Hb $$ H
  iapply hk
  iapply HS; iexact H

/-- A load of a half of a slot. -/
theorem half_load_step {c : Dev nD} {s a b d e : ℕ} {R : sProp 𝕄} {α : Type} {Q : α → sProp 𝕄} {sl : Fin 16} {p : Fin 2} (ok : There s b sl p) {h1}
    {k : ((chunkR sl p).toLoadRect.shape.Idx → Elt F .fp8e4m3) → Prog (TpuEff nD τ sig (Elt F) Λ₀ .tc) α}
    (hk : St m K c s a b d e R ⊢ wp frame (wpE (defs₀ (F := F)) 𝒱₀ (c : Thread nD τ) none) Set.univ (k (halfV m c sl p)) Q) :
    St m K c s a b d e R ⊢ wp frame (wpE (defs₀ (F := F)) 𝒱₀ (c : Thread nD τ) none) Set.univ (.op (.load gM (chunkR sl p).toLoadRect h1) k) Q := by
  have ha := half_acc m c ok
  rw [pts_eq] at ha
  refine (St_held m K c s a b d e R).1.trans ?_
  iintro ⟨H, HS⟩
  ihave H := ha $$ H
  icases H with ⟨H, Hb⟩
  iapply (wp_load 𝒱₀ (c : Thread nD τ) none Set.univ (m := gM) (half_set sl p)) $$ H
  iintro H
  ihave H := Hb $$ H
  iapply hk
  iapply HS; iexact H

/-! ## The result -/

/-- A load of the result buffer, whose value is not used. -/
theorem out_load_step {c : Dev nD} {s a b d e : ℕ} {R : sProp 𝕄} {α : Type} {Q : α → sProp 𝕄} {r : LoadRect S4096x128} {h1}
    {k : (r.shape.Idx → Elt F .f32) → Prog (TpuEff nD τ sig (Elt F) Λ₀ .tc) α}
    (hk : ∀ v, St m K c s a b d e R ⊢ wp frame (wpE (defs₀ (F := F)) 𝒱₀ (c : Thread nD τ) none) Set.univ (k v) Q) :
    St m K c s a b d e R ⊢ wp frame (wpE (defs₀ (F := F)) 𝒱₀ (c : Thread nD τ) none) Set.univ (.op (.load oM r h1) k) Q := by
  unfold St outRes
  iintro ⟨#Hrec, #Hlev, HO, Hout, Hin, Hown0, Hown1, Hx, ⟨%f, %hf, Hres⟩, HR⟩
  iapply (wp_load 𝒱₀ (c : Thread nD τ) none Set.univ (m := oM) (Finset.subset_univ _)) $$ Hres
  iintro Hres
  iapply (hk _)
  unfold St outRes
  isplitr; · iexact Hrec
  isplitr; · iexact Hlev
  isplitl [HO]; · iexact HO
  isplitl [Hout]; · iexact Hout
  isplitl [Hin]; · iexact Hin
  isplitl [Hown0]; · iexact Hown0
  isplitl [Hown1]; · iexact Hown1
  isplitl [Hx]; · iexact Hx
  isplitl [Hres]
  · iexists f
    isplitr; · ipureintro; exact hf
    iexact Hres
  iexact HR

/-- The store of a piece of the result: it stores what belongs there, and the pieces stored so far stay. -/
theorem out_store_step {c : Dev nD} {s a b d e : ℕ} {R : sProp 𝕄} {α : Type} {Q : α → sProp 𝕄} {r : Rect S4096x128} {v : r.shape.Idx → Elt F .f32}
    (hin : ∀ z, v z = outF m c (r.emb z))
    (hturn : ∀ i : S4096x128.Idx, turnOf (back c ⟨(i 0).val / 256, by have : (i 0).val < 4096 := (i 0).isLt; omega⟩) ⟨(i 0).val % 256 / 128, by omega⟩ = e → i ∈ r.set)
    {h1 h2} {k : PUnit → Prog (TpuEff nD τ sig (Elt F) Λ₀ .tc) α}
    (hk : St m K c s a b d (e + 1) R ⊢ wp frame (wpE (defs₀ (F := F)) 𝒱₀ (c : Thread nD τ) none) Set.univ (k ⟨⟩) Q) :
    St m K c s a b d e R ⊢ wp frame (wpE (defs₀ (F := F)) 𝒱₀ (c : Thread nD τ) none) Set.univ (.op (.store oM r v Finset.univ h1 h2) k) Q := by
  unfold St outRes
  iintro ⟨#Hrec, #Hlev, HO, Hout, Hin, Hown0, Hown1, Hx, ⟨%f, %hf, Hres⟩, HR⟩
  iapply (wp_store 𝒱₀ (c : Thread nD τ) none Set.univ (m := oM) (r := r) (Mk := Finset.univ) (Finset.subset_univ _)) $$ Hres
  iintro Hres
  iapply hk
  unfold St outRes
  isplitr; · iexact Hrec
  isplitr; · iexact Hlev
  isplitl [HO]; · iexact HO
  isplitl [Hout]; · iexact Hout
  isplitl [Hin]; · iexact Hin
  isplitl [Hown0]; · iexact Hown0
  isplitl [Hown1]; · iexact Hown1
  isplitl [Hx]; · iexact Hx
  isplitl [Hres]
  · iexists _
    isplitr
    · ipureintro
      show ∀ i : S4096x128.Idx, _ → (oM.access r).write (Elt F) f v Finset.univ i = outF m c i
      intro i hi
      by_cases hr : i ∈ r.set
      · rw [← Rect.map_emb_univ] at hr
        obtain ⟨z, -, rfl⟩ := Finset.mem_map.mp hr
        exact (View.write_emb_of_mem (v := oM.access r) f v (x := z) (Finset.mem_univ z)).trans (hin z)
      · rw [View.write_of_not_mem (v := oM.access r) f v Finset.univ
          (by rw [show (oM.access r).setOn Finset.univ = r.set from View.set_slice_whole _ _]; exact hr)]
        exact hf i ((Nat.lt_succ_iff_lt_or_eq.mp hi).resolve_right fun h => hr (hturn i h))
    iexact Hres
  iexact HR

/-- The slots in the order in which their products are stored. -/
def order : List (Fin 16) := [0, 1, 15, 2, 14, 3, 13, 4, 12, 5, 11, 6, 10, 7, 9, 8, 8]

abbrev BlockOK (e : ℕ) (sl : Fin 16) : Prop := sl ≠ 8 ∧ ∀ (s : Fin 16) (p : Fin 2), turnOf s p = e → s = sl

/-- The store of the product with a whole slot. -/
theorem block_store_step {c : Dev nD} {s a b d e : ℕ} {R : sProp 𝕄} {α : Type} {Q : α → sProp 𝕄} {sl : Fin 16} (ok : BlockOK e sl)
    {off : Fin 2 → Nat} (hoff : off = ![256 * (back c sl).val, 0]) {inb} {v : (Rect.unit (s := S4096x128) off S256x128.size inb).shape.Idx → Elt F .f32}
    (hv : v = k0_pay5 (scale m c) (wide m c) (slotV m c sl))
    {h1 h2} {k : PUnit → Prog (TpuEff nD τ sig (Elt F) Λ₀ .tc) α}
    (hk : St m K c s a b d (e + 1) R ⊢ wp frame (wpE (defs₀ (F := F)) 𝒱₀ (c : Thread nD τ) none) Set.univ (k ⟨⟩) Q) :
    St m K c s a b d e R ⊢ wp frame (wpE (defs₀ (F := F)) 𝒱₀ (c : Thread nD τ) none) Set.univ
      (.op (.store oM (Rect.unit (s := S4096x128) off S256x128.size inb) v Finset.univ h1 h2) k) Q := by
  subst hoff hv
  refine out_store_step m K ?_ ?_ hk
  · intro z
    have e0 : ((Rect.unit (s := S4096x128) ![256 * (back c sl).val, 0] S256x128.size inb).emb z 0).val = 256 * (back c sl).val + (z 0).val := by
      rw [Rect.emb_apply]; show 256 * (back c sl).val + 1 * (z 0).val = _; omega
    have e1 : ((Rect.unit (s := S4096x128) ![256 * (back c sl).val, 0] S256x128.size inb).emb z 1).val = (z 1).val := by
      rw [Rect.emb_apply]; show 0 + 1 * (z 1).val = _; omega
    have hz : (z 0).val < 256 := (z 0).isLt
    have hq : (⟨((Rect.unit (s := S4096x128) ![256 * (back c sl).val, 0] S256x128.size inb).emb z 0).val / 256,
        by have h : ((Rect.unit (s := S4096x128) ![256 * (back c sl).val, 0] S256x128.size inb).emb z 0).val < 4096 := Fin.isLt _; omega⟩ : Fin 16) = back c sl := by
      apply Fin.ext; show _ / 256 = _; rw [e0]; omega
    unfold outF
    dsimp only
    rw [hq, back_back, if_neg ok.1]
    congr 1
    funext x
    fin_cases x
    · apply Fin.ext
      show (z 0).val = ((Rect.unit (s := S4096x128) ![256 * (back c sl).val, 0] S256x128.size inb).emb z 0).val % 256
      rw [e0]; omega
    · exact Fin.ext e1.symm
  · intro i hi
    have hs := ok.2 _ _ hi
    have h0 : (i 0).val < 4096 := (i 0).isLt
    have h1 : (i 1).val < 128 := (i 1).isLt
    have hb : (i 0).val / 256 = (back c sl).val := by rw [← hs, back_back]
    rw [Rect.mem_set_unit]
    intro x
    fin_cases x
    · show 256 * (back c sl).val ≤ (i 0).val ∧ (i 0).val < 256 * (back c sl).val + 256; omega
    · show 0 ≤ (i 1).val ∧ (i 1).val < 0 + 128; omega

abbrev PieceOK (e : ℕ) (p : Fin 2) : Prop := ∀ (s : Fin 16) (p' : Fin 2), turnOf s p' = e → s = 8 ∧ p' = p

/-- The store of the product with a half of the last slot. -/
theorem piece_store_step {c : Dev nD} {s a b d e : ℕ} {R : sProp 𝕄} {α : Type} {Q : α → sProp 𝕄} {p : Fin 2} (ok : PieceOK e p)
    {off : Fin 2 → Nat} (hoff : off = ![256 * (back c 8).val + 128 * p.val, 0]) {inb} {v : (Rect.unit (s := S4096x128) off S128x128.size inb).shape.Idx → Elt F .f32}
    (hv : v = k0_pay22 (scale m c) (wide m c) (halfV m c 8 p))
    {h1 h2} {k : PUnit → Prog (TpuEff nD τ sig (Elt F) Λ₀ .tc) α}
    (hk : St m K c s a b d (e + 1) R ⊢ wp frame (wpE (defs₀ (F := F)) 𝒱₀ (c : Thread nD τ) none) Set.univ (k ⟨⟩) Q) :
    St m K c s a b d e R ⊢ wp frame (wpE (defs₀ (F := F)) 𝒱₀ (c : Thread nD τ) none) Set.univ
      (.op (.store oM (Rect.unit (s := S4096x128) off S128x128.size inb) v Finset.univ h1 h2) k) Q := by
  subst hoff hv
  have hp2 : p.val < 2 := p.isLt
  refine out_store_step m K ?_ ?_ hk
  · intro z
    have e0 : ((Rect.unit (s := S4096x128) ![256 * (back c 8).val + 128 * p.val, 0] S128x128.size inb).emb z 0).val
        = 256 * (back c 8).val + 128 * p.val + (z 0).val := by
      rw [Rect.emb_apply]; show 256 * (back c 8).val + 128 * p.val + 1 * (z 0).val = _; omega
    have e1 : ((Rect.unit (s := S4096x128) ![256 * (back c 8).val + 128 * p.val, 0] S128x128.size inb).emb z 1).val = (z 1).val := by
      rw [Rect.emb_apply]; show 0 + 1 * (z 1).val = _; omega
    have hz : (z 0).val < 128 := (z 0).isLt
    have hq : (⟨((Rect.unit (s := S4096x128) ![256 * (back c 8).val + 128 * p.val, 0] S128x128.size inb).emb z 0).val / 256,
        by have h : ((Rect.unit (s := S4096x128) ![256 * (back c 8).val + 128 * p.val, 0] S128x128.size inb).emb z 0).val < 4096 := Fin.isLt _
           omega⟩ : Fin 16) = back c 8 := by
      apply Fin.ext; show _ / 256 = _; rw [e0]; omega
    have hh : (⟨((Rect.unit (s := S4096x128) ![256 * (back c 8).val + 128 * p.val, 0] S128x128.size inb).emb z 0).val % 256 / 128,
        by omega⟩ : Fin 2) = p := by
      apply Fin.ext; show _ % 256 / 128 = _; rw [e0]; omega
    unfold outF
    dsimp only
    rw [hq, hh, back_back, if_pos rfl]
    congr 1
    funext x
    fin_cases x
    · apply Fin.ext
      show (z 0).val = ((Rect.unit (s := S4096x128) ![256 * (back c 8).val + 128 * p.val, 0] S128x128.size inb).emb z 0).val % 128
      rw [e0]; omega
    · exact Fin.ext e1.symm
  · intro i hi
    obtain ⟨hs, hp⟩ := ok _ _ hi
    have h0 : (i 0).val < 4096 := (i 0).isLt
    have h1 : (i 1).val < 128 := (i 1).isLt
    have hb : (i 0).val / 256 = (back c 8).val := by rw [← hs, back_back]
    have hb' : (i 0).val % 256 / 128 = p.val := congrArg Fin.val hp
    rw [Rect.mem_set_unit]
    intro x
    fin_cases x
    · show 256 * (back c 8).val + 128 * p.val ≤ (i 0).val ∧ (i 0).val < 256 * (back c 8).val + 128 * p.val + 128; omega
    · show 0 ≤ (i 1).val ∧ (i 1).val < 0 + 128; omega

end Cert.RingMatmul

end
-- ==== Proof.Body.lean ====
/-
  The kernel's body, step by step: at each operation the counters say which of the steps it is.
-/
module

public import proofs.«01_k».proof.Proof.Loads

@[expose] public section

set_option maxRecDepth 16384

noncomputable section

namespace Cert.RingMatmul

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × CI → ℕ)

/-! ## The next step of each kind, by the counters -/

abbrev half2 (n : ℕ) : Fin 2 := ⟨n % 2, Nat.mod_lt _ (by decide)⟩
abbrev slotAt (e : ℕ) : Fin 16 := order.getD e 0

theorem send_next {c : Dev nD} {s a b d e : ℕ} {R : sProp 𝕄} {α : Type} {Q : α → sProp 𝕄} (ok : SendOK s a b d (nth sends a)) {n : Dev nD} (hn : n = (nth sends a).dev c)
    {hsc hsrc hdst hsem} {k : PUnit → Prog (TpuEff nD τ sig (Elt F) Λ₀ .tc) α}
    (hk : St m K c s (a + 1) b d e R ⊢ wp frame (wpE (defs₀ (F := F)) 𝒱₀ (c : Thread nD τ) none) Set.univ (k ⟨⟩) Q) :
    St m K c s a b d e R ⊢ wp frame (wpE (defs₀ (F := F)) 𝒱₀ (c : Thread nD τ) none) Set.univ
      (.op (.enqueueDma (chunk (fromSlot (nth sends a)) (nth sends a).2.2)
        (.remote (Dev.tc n : Thread nD τ) (chunk (toSlot (nth sends a)) (nth sends a).2.2) (.dma (outQ (nth sends a))) hsc)
        (.dma (inQ (nth sends a))) hsrc hdst hsem) k) Q := send_step m K ok hn hk

theorem leave_next {c : Dev nD} {s a b d e : ℕ} {R : sProp 𝕄} {α : Type} {Q : α → sProp 𝕄} (ok : LeaveOK s a b d (nth leaves d)) {hsrc hdst} {k : PUnit → Prog (TpuEff nD τ sig (Elt F) Λ₀ .tc) α}
    (hk : St m K c s a b (d + 1) e R ⊢ wp frame (wpE (defs₀ (F := F)) 𝒱₀ (c : Thread nD τ) none) Set.univ (k ⟨⟩) Q) :
    St m K c s a b d e R ⊢ wp frame (wpE (defs₀ (F := F)) 𝒱₀ (c : Thread nD τ) none) Set.univ
      (.op (.waitDma2 (outQ (nth leaves d)) (chunk (toSlot (nth leaves d)) (nth leaves d).2.2) (chunk (fromSlot (nth leaves d)) (nth leaves d).2.2) hsrc hdst) k) Q :=
  leave_step m K ok hk

theorem arrive_next {c : Dev nD} {s a b d e : ℕ} {R : sProp 𝕄} {α : Type} {Q : α → sProp 𝕄} (ok : ArriveOK s a b d (nth arrivals b)) {hsrc hdst} {k : PUnit → Prog (TpuEff nD τ sig (Elt F) Λ₀ .tc) α}
    (hk : St m K c s a (b + 1) d e R ⊢ wp frame (wpE (defs₀ (F := F)) 𝒱₀ (c : Thread nD τ) none) Set.univ (k ⟨⟩) Q) :
    St m K c s a b d e R ⊢ wp frame (wpE (defs₀ (F := F)) 𝒱₀ (c : Thread nD τ) none) Set.univ
      (.op (.waitDma2 (inQ (nth arrivals b)) (chunk (fromSlot (nth arrivals b)) (nth arrivals b).2.2) (chunk (toSlot (nth arrivals b)) (nth arrivals b).2.2) hsrc hdst) k) Q :=
  arrive_step m K ok hk

theorem raw_load_next {c : Dev nD} {s a b d e : ℕ} {R : sProp 𝕄} {α : Type} {Q : α → sProp 𝕄} (hs : (half2 s).val = s) {h1}
    {k : ((chunkR 0 (half2 s)).toLoadRect.shape.Idx → Elt F .fp8e4m3) → Prog (TpuEff nD τ sig (Elt F) Λ₀ .tc) α}
    (hk : ∀ v, St m K c s a b d e R ⊢ wp frame (wpE (defs₀ (F := F)) 𝒱₀ (c : Thread nD τ) none) Set.univ (k v) Q) :
    St m K c s a b d e R ⊢ wp frame (wpE (defs₀ (F := F)) 𝒱₀ (c : Thread nD τ) none) Set.univ (.op (.load gM (chunkR 0 (half2 s)).toLoadRect h1) k) Q :=
  raw_load_step m K hs hk

theorem own_store_next {c : Dev nD} {s a b d e : ℕ} {R : sProp 𝕄} {α : Type} {Q : α → sProp 𝕄} (ok : OwnOK s a b d (half2 s))
    {v : (chunkR 0 (half2 s)).shape.Idx → Elt F .fp8e4m3} (hv : v = k0_pay3 (xhalf m c (half2 s))) {h1 h2} {k : PUnit → Prog (TpuEff nD τ sig (Elt F) Λ₀ .tc) α}
    (hk : St m K c (s + 1) a b d e R ⊢ wp frame (wpE (defs₀ (F := F)) 𝒱₀ (c : Thread nD τ) none) Set.univ (k ⟨⟩) Q) :
    St m K c s a b d e R ⊢ wp frame (wpE (defs₀ (F := F)) 𝒱₀ (c : Thread nD τ) none) Set.univ
      (.op (.store gM (chunkR 0 (half2 s)) v Finset.univ h1 h2) k) Q := own_store_step m K ok hv hk

theorem slot_load_next {c : Dev nD} {s a b d e : ℕ} {R : sProp 𝕄} {α : Type} {Q : α → sProp 𝕄} (ok : ∀ p, There s b (slotAt e) p) {h1}
    {k : ((slotR (slotAt e)).toLoadRect.shape.Idx → Elt F .fp8e4m3) → Prog (TpuEff nD τ sig (Elt F) Λ₀ .tc) α}
    (hk : St m K c s a b d e R ⊢ wp frame (wpE (defs₀ (F := F)) 𝒱₀ (c : Thread nD τ) none) Set.univ (k (slotV m c (slotAt e))) Q) :
    St m K c s a b d e R ⊢ wp frame (wpE (defs₀ (F := F)) 𝒱₀ (c : Thread nD τ) none) Set.univ (.op (.load gM (slotR (slotAt e)).toLoadRect h1) k) Q :=
  slot_load_step m K ok hk

theorem half_load_next {c : Dev nD} {s a b d e : ℕ} {R : sProp 𝕄} {α : Type} {Q : α → sProp 𝕄} (ok : There s b 8 (half2 (e + 1))) {h1}
    {k : ((chunkR 8 (half2 (e + 1))).toLoadRect.shape.Idx → Elt F .fp8e4m3) → Prog (TpuEff nD τ sig (Elt F) Λ₀ .tc) α}
    (hk : St m K c s a b d e R ⊢ wp frame (wpE (defs₀ (F := F)) 𝒱₀ (c : Thread nD τ) none) Set.univ (k (halfV m c 8 (half2 (e + 1)))) Q) :
    St m K c s a b d e R ⊢ wp frame (wpE (defs₀ (F := F)) 𝒱₀ (c : Thread nD τ) none) Set.univ (.op (.load gM (chunkR 8 (half2 (e + 1))).toLoadRect h1) k) Q :=
  half_load_step m K ok hk

theorem block_store_next {c : Dev nD} {s a b d e : ℕ} {R : sProp 𝕄} {α : Type} {Q : α → sProp 𝕄} (ok : BlockOK e (slotAt e))
    {off : Fin 2 → Nat} (hoff : off = ![256 * (back c (slotAt e)).val, 0]) {inb} {v : (Rect.unit (s := S4096x128) off S256x128.size inb).shape.Idx → Elt F .f32}
    (hv : v = k0_pay5 (scale m c) (wide m c) (slotV m c (slotAt e)))
    {h1 h2} {k : PUnit → Prog (TpuEff nD τ sig (Elt F) Λ₀ .tc) α}
    (hk : St m K c s a b d (e + 1) R ⊢ wp frame (wpE (defs₀ (F := F)) 𝒱₀ (c : Thread nD τ) none) Set.univ (k ⟨⟩) Q) :
    St m K c s a b d e R ⊢ wp frame (wpE (defs₀ (F := F)) 𝒱₀ (c : Thread nD τ) none) Set.univ
      (.op (.store oM (Rect.unit (s := S4096x128) off S256x128.size inb) v Finset.univ h1 h2) k) Q := block_store_step m K ok hoff hv hk

theorem piece_store_next {c : Dev nD} {s a b d e : ℕ} {R : sProp 𝕄} {α : Type} {Q : α → sProp 𝕄} (ok : PieceOK e (half2 (e + 1)))
    {off : Fin 2 → Nat} (hoff : off = ![256 * (back c 8).val + 128 * (half2 (e + 1)).val, 0]) {inb}
    {v : (Rect.unit (s := S4096x128) off S128x128.size inb).shape.Idx → Elt F .f32}
    (hv : v = k0_pay22 (scale m c) (wide m c) (halfV m c 8 (half2 (e + 1))))
    {h1 h2} {k : PUnit → Prog (TpuEff nD τ sig (Elt F) Λ₀ .tc) α}
    (hk : St m K c s a b d (e + 1) R ⊢ wp frame (wpE (defs₀ (F := F)) 𝒱₀ (c : Thread nD τ) none) Set.univ (k ⟨⟩) Q) :
    St m K c s a b d e R ⊢ wp frame (wpE (defs₀ (F := F)) 𝒱₀ (c : Thread nD τ) none) Set.univ
      (.op (.store oM (Rect.unit (s := S4096x128) off S128x128.size inb) v Finset.univ h1 h2) k) Q := piece_store_step m K ok hoff hv hk

/-! ## The body -/

attribute [local irreducible] wp

set_option maxHeartbeats 4000000 in
/-- Once the device has met its neighbours, read the scales and its columns of `w` and stored the first half of its block. -/
theorem body_run {c : Dev nD} {R P : sProp 𝕄} {Q : PUnit → sProp 𝕄} (hk : St m K c 2 30 30 30 17 R ⊢ Q ⟨⟩)
    (hP : ∀ Q', (∀ v2 v5 v7, St m K c 1 0 0 0 0 R ⊢ Q' ⟨c, v2, v5, v7, scale m c, wide m c, 1#32⟩) → P ⊢ wp frame (wpE (defs₀ (F := F)) 𝒱₀ (c : Thread nD τ) none) Set.univ
        (k0_part1 (Memref.whole cc0_stg0_0) (Memref.isWhole_whole _) (Memref.whole cc0_stg1_0) (Memref.isWhole_whole _) (Memref.whole cc0_stg2_0) (Memref.isWhole_whole _)
          (Memref.whole cc0_stg3_0) (Memref.isWhole_whole _) (Memref.whole cc0_stg4_0) (Memref.isWhole_whole _) (Memref.whole cc0_scratch0) (Memref.isWhole_whole _)
          cc0_scratch1 cc0_scratch2 cc0_scratch3 cc0_scratch4) Q') :
    P ⊢ wp frame (wpE (defs₀ (F := F)) 𝒱₀ (c : Thread nD τ) none) Set.univ
        (cc0_body (Memref.whole cc0_stg0_0) (Memref.isWhole_whole _) (Memref.whole cc0_stg1_0) (Memref.isWhole_whole _) (Memref.whole cc0_stg2_0) (Memref.isWhole_whole _)
          (Memref.whole cc0_stg3_0) (Memref.isWhole_whole _) (Memref.whole cc0_stg4_0) (Memref.isWhole_whole _) (Memref.whole cc0_scratch0) (Memref.isWhole_whole _)
          cc0_scratch1 cc0_scratch2 cc0_scratch3 cc0_scratch4) Q := by
  rw [cc0_body_eq_skeleton]; unfold cc0_body_skel
  rw [k0_part40_eq_skeleton]; unfold k0_part40_skel
  rw [Prog.bind_assoc, wp_bind]
  refine hP _ fun v2 v5 v7 => ?_
  simp only [Prog.lift, Prog.bind_op, Prog.bind_ret, Prog.pure_eq_ret, Prog.bind_assoc,
    k0_part2_eq_skeleton, k0_part2_skel, k0_part3_eq_skeleton, k0_part3_skel, k0_part4_eq_skeleton, k0_part4_skel, k0_part5_eq_skeleton, k0_part5_skel,
    k0_part6_eq_skeleton, k0_part6_skel, k0_part7_eq_skeleton, k0_part7_skel, k0_part8_eq_skeleton, k0_part8_skel, k0_part9_eq_skeleton, k0_part9_skel,
    k0_part10_eq_skeleton, k0_part10_skel, k0_part11_eq_skeleton, k0_part11_skel, k0_part12_eq_skeleton, k0_part12_skel, k0_part13_eq_skeleton, k0_part13_skel,
    k0_part14_eq_skeleton, k0_part14_skel, k0_part15_eq_skeleton, k0_part15_skel, k0_part16_eq_skeleton, k0_part16_skel, k0_part17_eq_skeleton, k0_part17_skel,
    k0_part18_eq_skeleton, k0_part18_skel, k0_part19_eq_skeleton, k0_part19_skel, k0_part20_eq_skeleton, k0_part20_skel, k0_part21_eq_skeleton, k0_part21_skel,
    k0_part22_eq_skeleton, k0_part22_skel, k0_part23_eq_skeleton, k0_part23_skel, k0_part24_eq_skeleton, k0_part24_skel, k0_part25_eq_skeleton, k0_part25_skel,
    k0_part26_eq_skeleton, k0_part26_skel, k0_part27_eq_skeleton, k0_part27_skel, k0_part28_eq_skeleton, k0_part28_skel, k0_part29_eq_skeleton, k0_part29_skel,
    k0_part30_eq_skeleton, k0_part30_skel, k0_part31_eq_skeleton, k0_part31_skel, k0_part32_eq_skeleton, k0_part32_skel, k0_part33_eq_skeleton, k0_part33_skel,
    k0_part34_eq_skeleton, k0_part34_skel, k0_part35_eq_skeleton, k0_part35_skel, k0_part36_eq_skeleton, k0_part36_skel, k0_part37_eq_skeleton, k0_part37_skel,
    k0_part38_eq_skeleton, k0_part38_skel, k0_part39_eq_skeleton, k0_part39_skel]
  repeat' first
    | refine send_next m K (by decide +kernel) (by clear * -; revert c; decide +kernel) ?_
    | refine arrive_next m K (by decide +kernel) ?_
    | refine leave_next m K (by decide +kernel) ?_
    | refine x_load_step m K ?_
    | refine raw_load_next m K (by decide +kernel) (fun _ => ?_)
    | refine own_store_next m K (by decide +kernel) rfl ?_
    | refine slot_load_next m K (by decide +kernel) ?_
    | refine half_load_next m K (by decide +kernel) ?_
    | refine out_load_step m K (fun _ => ?_)
    | refine block_store_next m K (by decide +kernel) (by clear * -; revert c; decide +kernel) rfl ?_
    | refine piece_store_next m K (by decide +kernel) (by clear * -; revert c; decide +kernel) rfl ?_
  exact hk.trans (le_wp_ret _ _ _ _ _)

end Cert.RingMatmul

end
-- ==== Proof.Ends.lean ====
/-
  The two ends of the body: the gather buffer taken apart at its start, put together at its end.
-/
module

public import proofs.«01_k».proof.Proof.Loads

@[expose] public section

set_option maxRecDepth 16384

noncomputable section

namespace Cert.RingMatmul

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × CI → ℕ)

/-! ## The gather buffer as its chunks -/

theorem chunks_cover : (UT.biUnion fun t => cset (toSlot t) t.2.2) ∪ (cset 0 0 ∪ cset 0 1) = (Finset.univ : Finset S16x256x4096.Idx) := by
  ext i
  refine ⟨fun _ => Finset.mem_univ i, fun _ => ?_⟩
  have h0 : (i 0).val < 16 := (i 0).isLt
  have h1 : (i 1).val < 256 := (i 1).isLt
  rw [Finset.mem_union, Finset.mem_union, Finset.mem_biUnion]
  by_cases hs : (⟨(i 0).val, h0⟩ : Fin 16) = 0
  · right
    have hv : (i 0).val = 0 := congrArg Fin.val hs
    rcases Nat.lt_or_ge (i 1).val 128 with h | h
    · left; rw [mem_cset]; exact ⟨hv, by show _ = 0; omega⟩
    · right; rw [mem_cset]; exact ⟨hv, by show _ = 1; omega⟩
  · left
    obtain ⟨t, ht, e, e'⟩ := toSlot_onto ⟨(i 0).val, h0⟩ hs ⟨(i 1).val / 128, by omega⟩
    exact ⟨t, ht, by rw [mem_cset, e, e']; exact ⟨rfl, rfl⟩⟩

theorem whole_eq (q : PosShare TreeShare) (c : Dev nD) (f : Buf (Elt F) ((c : Thread nD τ).loc cc0_scratch0)) :
    (((c : Thread nD τ).loc cc0_scratch0) ↦{q} f : sProp 𝕄)
      = iprop((bigSep UT fun t => pts q c (toSlot t) t.2.2 f) ∗ pts q c 0 0 f ∗ pts q c 0 1 f) := by
  have hd1 : Disjoint (cset 0 0) (cset 0 1) := cset_disjoint (by decide)
  have hd0 : ∀ t ∈ UT, ∀ p : Fin 2, Disjoint (cset (toSlot t) t.2.2) (cset 0 p) := fun t ht p =>
    cset_disjoint fun h => toSlot_pos t ht (congrArg Prod.fst h)
  have hd2 : Disjoint (UT.biUnion fun t => cset (toSlot t) t.2.2) (cset 0 0 ∪ cset 0 1) := by
    rw [Finset.disjoint_biUnion_left]
    intro t ht
    rw [Finset.disjoint_union_right]
    exact ⟨hd0 t ht 0, hd0 t ht 1⟩
  rw [bigSep_congr (s := UT) fun t _ => pts_eq q c (toSlot t) t.2.2 f, pts_eq, pts_eq]
  show (((c : Thread nD τ).loc cc0_scratch0) ↦[(Finset.univ : Finset S16x256x4096.Idx)]{q} f : sProp 𝕄) = _
  rw [← chunks_cover]
  have e : ∀ {A B : Finset S16x256x4096.Idx} (h : Disjoint A B),
      (((c : Thread nD τ).loc cc0_scratch0) ↦[A ∪ B]{q} f : sProp 𝕄)
        = iprop((((c : Thread nD τ).loc cc0_scratch0) ↦[A]{q} f) ∗ ((c : Thread nD τ).loc cc0_scratch0) ↦[B]{q} f) :=
    fun {A B} h => (pointsTo_union (ℓ := (c : Thread nD τ).loc cc0_scratch0) (I := A) (J := B) h).1.antisymm
      (pointsTo_union (ℓ := (c : Thread nD τ).loc cc0_scratch0) (I := A) (J := B) h).2
  rw [e hd2, e hd1, pointsTo_biUnion (ℓ := (c : Thread nD τ).loc cc0_scratch0) UT (fun t => cset (toSlot t) t.2.2) fun t ht t' ht' hne => cset_disjoint (toSlot_ne t ht t' ht' hne)]

theorem pts_raw (c : Dev nD) (s : Fin 16) (p : Fin 2) (f : Buf (Elt F) ((c : Thread nD τ).loc cc0_scratch0)) :
    pts fullShare c s p f ⊢ raw (F := F) c s p := by
  unfold raw
  iintro H
  iexists f; iexact H

theorem UT_by_side (Φ : Tr → sProp 𝕄) : bigSep UT Φ = iprop(bigSep (UD false) Φ ∗ bigSep (UD true) Φ) := by
  rw [show UT = UD false ∪ UD true by decide, bigSep_union (show Disjoint (UD false) (UD true) by decide)]; rfl

/-- The gather buffer, as the chunks the neighbours are to fill and the device's own two. -/
theorem taken_apart (c : Dev nD) (f : Buf (Elt F) ((c : Thread nD τ).loc cc0_scratch0)) :
    (((c : Thread nD τ).loc cc0_scratch0) ↦{fullShare} f : sProp 𝕄)
      ⊢ iprop(barPay (prv c) true ∗ barPay (nxt c) false ∗ raw c 0 0 ∗ raw c 0 1) := by
  have h1 : side true (prv c) = c := nxt_prv c
  have h2 : side false (nxt c) = c := prv_nxt c
  have hm : (bigSep UT fun t => pts fullShare c (toSlot t) t.2.2 f) ⊢ bigSep UT fun t => raw (F := F) c (toSlot t) t.2.2 :=
    bigSep_mono fun t _ => pts_raw c _ _ f
  rw [UT_by_side (fun t => raw (F := F) c (toSlot t) t.2.2)] at hm
  unfold barPay
  rw [whole_eq, h1, h2]
  iintro ⟨H, H0, H1⟩
  ihave H := hm $$ H
  icases H with ⟨HF, HT⟩
  isplitl [HT]; · iexact HT
  isplitl [HF]; · iexact HF
  isplitl [H0]; · iapply (pts_raw c 0 0 f); iexact H0
  iapply (pts_raw c 0 1 f); iexact H1

/-! ## The end -/

/-- The transfers of a device's own block. -/
def H0 : Finset Tr := UT.filter fun t => t.2.1 = 0

theorem UT_by_hop (Φ : Tr → sProp 𝕄) : bigSep UT Φ
    = iprop((Φ (true, 0, 0) ∗ Φ (true, 0, 1) ∗ Φ (false, 0, 0) ∗ Φ (false, 0, 1)) ∗ bigSep FW fun t => Φ (onward t)) := by
  rw [← bigSep_map onward (Φ := Φ), show UT = H0 ∪ FW.map onward by decide +kernel,
    bigSep_union (show Disjoint H0 (FW.map onward) by decide +kernel),
    bigSep_eq_bigSepL_of_eq (S := H0) [(true, 0, 0), (true, 0, 1), (false, 0, 0), (false, 0, 1)] (by decide +kernel) (by decide)]
  rfl

theorem FW_sub : FW ⊆ UT := Finset.filter_subset _ _

/-- The left halves of all chunks: of those sent on they come back with the departures, of the others they were kept. -/
theorem left_halves (c : Dev nD) :
    iprop((bigSep UT fun t => outPay m c t) ∗ bigSep UT fun t => if t ∈ FW then iprop(emp) else pts fullShare.left c (toSlot t) t.2.2 (gathF m c))
      ⊢ (((c : Thread nD τ).loc cc0_scratch0) ↦{fullShare.left} gathF m c : sProp 𝕄) := by
  have hs : ∀ p : Fin 2, iprop(outPay m c (true, 0, p) ∗ outPay m c (false, 0, p)) ⊢ pts fullShare.left c 0 p (gathF m c) := fun p => by
    unfold outPay
    rw [hop_zero_from (true, 0, p) rfl, hop_zero_from (false, 0, p) rfl, show lent (true, 0, p) = fullShare.left.left from rfl,
      show lent (false, 0, p) = fullShare.left.right from rfl]
    unfold pts
    exact (pointsTo_share (PosShare.mem_left_op_right fullShare.left)).2
  have hon : ∀ t ∈ FW, outPay m c (onward t) = pts fullShare.left c (toSlot t) t.2.2 (gathF m c) := fun t ht => by
    unfold outPay lent
    rw [if_neg (onward_hop t ht).1, fromSlot_onward t ht, (onward_hop t ht).2]
  rw [whole_eq, UT_by_hop (fun t => outPay m c t), bigSep_congr hon, bigSep_sdiff_split FW_sub,
    bigSep_congr (s := UT \ FW) (Φ := fun t => if t ∈ FW then iprop(emp) else pts fullShare.left c (toSlot t) t.2.2 (gathF m c))
      (Ψ := fun t => pts fullShare.left c (toSlot t) t.2.2 (gathF m c)) fun t ht => if_neg (Finset.mem_sdiff.mp ht).2,
    bigSep_sdiff_split (Φ := fun t => pts fullShare.left c (toSlot t) t.2.2 (gathF m c)) FW_sub]
  show iprop(((_ ∗ _ ∗ _ ∗ _) ∗ _) ∗ _ ∗ _) ⊢ iprop((_ ∗ _) ∗ _ ∗ _)
  iintro ⟨⟨⟨H1, H2, H3, H4⟩, HF⟩, -, HN⟩
  isplitl [HF HN]
  · isplitl [HF] <;> iassumption
  isplitl [H1 H3]
  · iapply (hs 0); isplitl [H1] <;> iassumption
  · iapply (hs 1); isplitl [H2] <;> iassumption

theorem all_left : ∀ t ∈ UT, outSt 2 30 30 30 t = 3 := by decide +kernel
theorem all_arrived : ∀ t ∈ UT, decide (t ∈ arrivals.take 30) = true := by decide +kernel
theorem all_sent : sends.drop 30 = [] := by decide
theorem turn_lt : ∀ (s : Fin 16) (p : Fin 2), turnOf s p < 17 := by decide

/-- What the body leaves. -/
theorem finish (c : Dev nD) (R : sProp 𝕄) : St m K c 2 30 30 30 17 R ⊢ iprop((∃ W, owes (c : Thread nD τ) 0 W)
    ∗ (((c : Thread nD τ).loc cc0_scratch0) ↦{fullShare} gathF m c)
    ∗ (bigSep UT fun t => semVal (outCell c t) 0) ∗ (bigSep UT fun t => semVal (inCell c t) 0)
    ∗ (((c : Thread nD τ).loc cc0_stg0_0) ↦{fullShare} xstg m c) ∗ (((c : Thread nD τ).loc cc0_stg4_0) ↦{fullShare} outF m c) ∗ R) := by
  have hO : (bigSep UT fun t => resO m c t (outSt 2 30 30 30 t))
      = iprop((bigSep UT fun t => outPay m c t) ∗ bigSep UT fun t => semVal (outCell c t) 0) := by
    rw [← bigSep_sep']
    exact bigSep_congr fun t ht => by rw [all_left t ht, resO_three]
  have hI : (bigSep UT fun t => resI m c t (decide (t ∈ arrivals.take 30)))
      = iprop((bigSep UT fun t => pts fullShare.right c (toSlot t) t.2.2 (gathF m c))
        ∗ (bigSep UT fun t => if t ∈ FW then iprop(emp) else pts fullShare.left c (toSlot t) t.2.2 (gathF m c))
        ∗ bigSep UT fun t => semVal (inCell c t) 0) := by
    rw [← bigSep_sep', ← bigSep_sep']
    exact bigSep_congr fun t ht => by rw [all_arrived t ht, resI_true]
  have hown : ∀ p : Fin 2, own m c p 2 = pts fullShare.right c 0 p (gathF m c) := fun p => if_pos p.isLt
  have hL := left_halves m c
  have hW : iprop((((c : Thread nD τ).loc cc0_scratch0) ↦{fullShare.left} gathF m c) ∗ (((c : Thread nD τ).loc cc0_scratch0) ↦{fullShare.right} gathF m c))
      ⊢ (((c : Thread nD τ).loc cc0_scratch0) ↦{fullShare} gathF m c : sProp 𝕄) := (pointsTo_share (PosShare.mem_left_op_right fullShare)).2
  unfold St outRes
  rw [hO, hI, hown, hown, all_sent]
  iintro ⟨-, -, HO, ⟨HoP, HoS⟩, ⟨HiR, HiL, HiS⟩, Hw0, Hw1, Hx, ⟨%f, %hf, Hf⟩, HR⟩
  have e : f = outF m c := funext fun i => hf i (turn_lt _ _)
  subst e
  isplitl [HO]; · iexact HO
  isplitl [HoP HiR HiL Hw0 Hw1]
  · iapply hW
    isplitl [HoP HiL]
    · iapply hL
      isplitl [HoP] <;> iassumption
    · rw [whole_eq]
      isplitl [HiR]; · iexact HiR
      isplitl [Hw0] <;> iassumption
  isplitl [HoS]; · iexact HoS
  isplitl [HiS]; · iexact HiS
  isplitl [Hx]; · iexact Hx
  isplitl [Hf] <;> iassumption

end Cert.RingMatmul

end
-- ==== Proof.Core.lean ====
/-
  The start of the body - the two neighbours are met, the operands read - and the body as a whole.
-/
module

public import proofs.«01_k».proof.Proof.Body
public import proofs.«01_k».proof.Proof.Ends

@[expose] public section

set_option maxRecDepth 16384

noncomputable section

namespace Cert.RingMatmul

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × CI → ℕ)

/-! ## What a device starts with -/

/-- Its places in its own cells' rounds, and the right to pay the duties it pays. -/
def linear (c : Dev nD) : sProp 𝕄 :=
  iprop(atPos ER (barCell c) 0 ∅ 0 ∗ (bigSep Finset.univ fun t : Tr => atPos ER (outCell c t) 0 ∅ 0)
    ∗ (bigSep Finset.univ fun t : Tr => atPos ER (inCell c t) 0 ∅ 0)
    ∗ dutyTok ER (barCell (prv c)) 0 true ∗ dutyTok ER (barCell (nxt c)) 0 false
    ∗ (bigSep UT fun t => dutyTok ER (outCell c t) 0 true) ∗ bigSep UT fun t => dutyTok ER (inCell (t.dev c) t) 0 true)

def credits (c : Dev nD) : sProp 𝕄 :=
  iprop(cred (tallyAt (barCell c) () 2) ∗ bigSep UT fun t => cred (tallyAt (inCell c t) () N))

/-- The three operands the transfers leave alone. -/
def others (c : Dev nD) : sProp 𝕄 :=
  iprop((((c : Thread nD τ).loc cc0_stg1_0) ↦{fullShare} wstg m c) ∗ (((c : Thread nD τ).loc cc0_stg2_0) ↦{fullShare} sxstg m c)
    ∗ (((c : Thread nD τ).loc cc0_stg3_0) ↦{fullShare} swstg m c))

/-- The counters of the cells no transfer uses, and of the barrier cell, once it has been waited for. -/
def idle (c : Dev nD) : sProp 𝕄 :=
  iprop(semVal (barCell c) 0 ∗ (bigSep (Finset.univ \ UT) fun t : Tr => semVal (outCell c t) 0) ∗ bigSep (Finset.univ \ UT) fun t : Tr => semVal (inCell c t) 0)

def atStart (c : Dev nD) : sProp 𝕄 :=
  iprop(records m K ∗ levAts L lv ∗ linear c ∗ credits c ∗ (∃ W, owes (c : Thread nD τ) (O₀ c) W)
    ∗ (∃ f, ((c : Thread nD τ).loc cc0_scratch0) ↦{fullShare} f) ∗ (((c : Thread nD τ).loc cc0_stg0_0) ↦{fullShare} xstg m c) ∗ others m c
    ∗ ∃ f, ((c : Thread nD τ).loc cc0_stg4_0) ↦{fullShare} f)

theorem close_unused (c : Dev nD) (o : Bool) :
    iprop(records m K ∗ bigSep (Finset.univ \ UT) fun t : Tr => atPos ER (kcell (c, some (o, t))) 0 ∅ 0)
      ⊢ |={Set.univ}=> bigSep (Finset.univ \ UT) fun t : Tr => (semVal (kcell (c, some (o, t))) 0 : sProp 𝕄) := by
  refine BIBase.Entails.trans (bigSep_with_persistent (R := records m K)
    (Ψ := fun t : Tr => iprop(|={Set.univ}=> semVal (kcell (c, some (o, t))) 0)) fun t ht => ?_) (bigSep_fupd _ _)
  have hn := (Finset.mem_sdiff.mp ht).2
  iintro ⟨#Hrec, Hat⟩
  iapply (Rounds.cell_close ER (rd m) (Set.mem_univ (K (c, some (o, t)))) (fun h => h) (R := 0)
    (by cases o
        · exact fun r _ => duties_in_none m c hn r
        · exact fun r _ => duties_out_none m c hn r))
  isplitr
  · iapply (records_inv m K (c, some (o, t))); iexact Hrec
  · iexact Hat

theorem none_out : ∀ t ∈ UT, outSt 0 0 0 0 t = 0 := by decide +kernel

/-- The state after the neighbours are met. -/
theorem enter (c : Dev nD) (R : sProp 𝕄) :
    iprop(records m K ∗ levAts L lv ∗ (∃ W, owes (c : Thread nD τ) (owed c sends) W)
      ∗ ((bigSep UT fun t => dutyTok ER (outCell c t) 0 true) ∗ (bigSep UT fun t => dutyTok ER (inCell (t.dev c) t) 0 true)
        ∗ (barPay c false ∗ barPay c true) ∗ bigSep UT fun t => atPos ER (outCell c t) 0 ∅ 0)
      ∗ ((bigSep UT fun t => atPos ER (inCell c t) 0 ∅ 0) ∗ bigSep UT fun t => cred (tallyAt (inCell c t) () N))
      ∗ raw c 0 0 ∗ raw c 0 1 ∗ (((c : Thread nD τ).loc cc0_stg0_0) ↦{fullShare} xstg m c)
      ∗ (∃ f, ((c : Thread nD τ).loc cc0_stg4_0) ↦{fullShare} f) ∗ R) ⊢ St m K c 0 0 0 0 0 R := by
  have hO : (bigSep UT fun t => resO m c t (outSt 0 0 0 0 t)) = iprop((bigSep UT fun t => dutyTok ER (outCell c t) 0 true)
        ∗ (bigSep UT fun t => dutyTok ER (inCell (t.dev c) t) 0 true)
        ∗ (barPay c false ∗ barPay c true) ∗ bigSep UT fun t => atPos ER (outCell c t) 0 ∅ 0) := by
    have hb : iprop(barPay c false ∗ barPay c true) = bigSep UT fun t => raw (F := F) (t.dev c) (toSlot t) t.2.2 := by
      rw [UT_by_side (fun t => raw (F := F) (t.dev c) (toSlot t) t.2.2)]
      have hs : ∀ b, barPay c b = bigSep (UD b) fun t => raw (F := F) (t.dev c) (toSlot t) t.2.2 := fun b =>
        bigSep_congr fun t ht => by rw [← (Finset.mem_filter.mp ht).2]
      rw [hs, hs]
    rw [hb, ← bigSep_sep', ← bigSep_sep', ← bigSep_sep']
    exact bigSep_congr fun t ht => by rw [none_out t ht, resO_zero]; rfl
  have hI : (bigSep UT fun t => resI m c t (decide (t ∈ arrivals.take 0)))
      = iprop((bigSep UT fun t => atPos ER (inCell c t) 0 ∅ 0) ∗ bigSep UT fun t => cred (tallyAt (inCell c t) () N)) := by
    rw [← bigSep_sep']
    exact bigSep_congr fun t ht => by rw [show decide (t ∈ arrivals.take 0) = false from decide_eq_false (List.not_mem_nil), resI_false]
  have hown : ∀ p : Fin 2, own m c p 0 = raw c 0 p := fun p => if_neg (Nat.not_lt_zero _)
  unfold St outRes
  rw [hO, hI, hown, hown, show sends.drop 0 = sends from rfl]
  iintro ⟨Hrec, Hlev, HO, H1, H2, Hw0, Hw1, Hx, ⟨%f, Hf⟩, HR⟩
  isplitl [Hrec]; · iexact Hrec
  isplitl [Hlev]; · iexact Hlev
  isplitl [HO]; · iexact HO
  isplitl [H1]; · iexact H1
  isplitl [H2]; · iexact H2
  isplitl [Hw0]; · iexact Hw0
  isplitl [Hw1]; · iexact Hw1
  isplitl [Hx]; · iexact Hx
  isplitl [Hf]
  · iexists f
    isplitr
    · ipureintro; exact fun i hi => absurd hi (Nat.not_lt_zero _)
    · iexact Hf
  iexact HR

abbrev sxM : Memref sig .tc .smem S1 .f32 := Memref.whole cc0_stg2_0
abbrev swM : Memref sig .tc .smem S1 .f32 := Memref.whole cc0_stg3_0
abbrev wM : Memref sig .tc .vmem S4096x128 .fp8e5m2 := Memref.whole cc0_stg1_0

/-- Meeting the neighbours, then reading the scales and the columns of `w`. -/
theorem meet {c n₁ n₂ : Dev nD} (h₁ : n₁ = prv c) (h₂ : n₂ = nxt c) {α : Type} {Q : α → sProp 𝕄} {r : LoadRect S4096x128} {g1 g2 g3}
    {k : (oneR.toLoadRect.shape.Idx → Elt F .f32) → (oneR.toLoadRect.shape.Idx → Elt F .f32) → (r.shape.Idx → Elt F .fp8e5m2) → Prog (TpuEff nD τ sig (Elt F) Λ₀ .tc) α}
    (hk : St m K c 0 0 0 0 0 iprop(idle c ∗ others m c) ⊢ wp frame (wpE (defs₀ (F := F)) 𝒱₀ (c : Thread nD τ) none) Set.univ
      (k (sxM.view.readAt (Elt F) oneR.toLoadRect (sxstg m c)) (swM.view.readAt (Elt F) oneR.toLoadRect (swstg m c)) (wM.view.readAt (Elt F) r (wstg m c))) Q) :
    atStart m K c ⊢ wp frame (wpE (defs₀ (F := F)) 𝒱₀ (c : Thread nD τ) none) Set.univ
      (.op (.semSignal ((n₁ : Thread nD τ)) barS (1#32).toInt) fun _ => .op (.semSignal ((n₂ : Thread nD τ)) barS (1#32).toInt) fun _ =>
        .op (.semWait barS (2#32).toInt) fun _ => .op (.load sxM oneR.toLoadRect g1) fun a => .op (.load swM oneR.toLoadRect g2) fun b =>
        .op (.load wM r g3) fun w => k a b w) Q := by
  subst h₁ h₂
  unfold atStart linear credits others
  rw [bigSep_sdiff_split (Finset.subset_univ UT) (Φ := fun t : Tr => (atPos ER (outCell c t) 0 ∅ 0 : sProp 𝕄)),
    bigSep_sdiff_split (Finset.subset_univ UT) (Φ := fun t : Tr => (atPos ER (inCell c t) 0 ∅ 0 : sProp 𝕄))]
  show iprop(_ ∗ _ ∗ (_ ∗ (_ ∗ _) ∗ (_ ∗ _) ∗ _ ∗ _ ∗ _ ∗ _) ∗ _ ∗ _ ∗ _ ∗ _ ∗ _ ∗ _) ⊢ _
  iintro ⟨#Hrec, #Hlev, ⟨HaB, ⟨HaO, HzO⟩, ⟨HaI, HzI⟩, HtP, HtN, HtO, HtI⟩, ⟨HcB, HcI⟩, ⟨%W, HO⟩, ⟨%f, Hg⟩, Hx, ⟨Hw, Hsx, Hsw⟩, Hout⟩
  ihave Hg := (taken_apart c f) $$ Hg
  icases Hg with ⟨HpP, HpN, Hr0, Hr1⟩
  ihave HiB := (records_inv m K (c, none)) $$ Hrec
  icases HiB with #HiB
  iapply (Rounds.wp_signal 𝒱₀ ER (rd m) (c : Thread nD τ) none (dst := (prv c : Thread nD τ)) (κ := K (prv c, none)) (d := true) (by rw [duties_bar]; exact Finset.mem_univ _)
      ((amount_bar m (prv c) true).trans (by decide)) () (O₁ c) rfl) $$ [HO HtP HpP]
  · isplitr; · iapply (records_inv m K (prv c, none)); iexact Hrec
    isplitl [HO]; · iexact HO
    isplitl [HtP]; · iexact HtP
    isplitl [HpP]; · rw [payload_bar]; iexact HpP
    iapply (records_reached m K (prv c, none)); iexact Hrec
  iintro HO
  iapply (Rounds.wp_signal 𝒱₀ ER (rd m) (c : Thread nD τ) none (dst := (nxt c : Thread nD τ)) (κ := K (nxt c, none)) (d := false) (by rw [duties_bar]; exact Finset.mem_univ _)
      ((amount_bar m (nxt c) false).trans (by decide)) () (owed c sends) rfl) $$ [HO HtN HpN]
  · isplitr; · iapply (records_inv m K (nxt c, none)); iexact Hrec
    isplitl [HO]; · iexact HO
    isplitl [HtN]; · iexact HtN
    isplitl [HpN]; · rw [payload_bar]; iexact HpN
    iapply (records_reached m K (nxt c, none)); iexact Hrec
  iintro HO
  iapply (Rounds.wp_wait_rest_token 𝒱₀ ER (rd m) (c : Thread nD τ) none (κ := K (c, none))
      (wpE_semWait_eq 𝒱₀ (c : Thread nD τ) none Set.univ) (Set.mem_univ _) () (O := owed c sends) (W := W) (R := 0) (m := 0) (T := ∅)
      (by rw [expect_bar]; decide)) $$ [HcB HO HaB]
  · isplitr; · iexact HiB
    isplitl [HcB]; · iexact HcB
    isplitl [HO]; · iexact HO
    isplitr
    · iapply (mayWait_cut (F := F) c (.reg barS) 1 (le_of_eq (lv_bar c)) sends (by decide)); iexact Hlev
    iexact HaB
  iintro ⟨HO, HaB, -, Hpay⟩
  ihave Hpay := (Entails.of_eq (rest_bar m c)) $$ Hpay
  imod (Rounds.cell_close ER (rd m) (Set.mem_univ (K (c, none))) (fun h => h) (R := 0 + 1) (duties_later m (barCell c))) $$ [HaB] with HvB
  · isplitr; · iexact HiB
    iexact HaB
  imod (close_unused m K c true) $$ [HzO] with HvO
  · isplitr; · iexact Hrec
    iexact HzO
  imod (close_unused m K c false) $$ [HzI] with HvI
  · isplitr; · iexact Hrec
    iexact HzI
  iapply (wp_load 𝒱₀ (c : Thread nD τ) none Set.univ (m := sxM) (Finset.subset_univ _)) $$ Hsx; iintro Hsx
  iapply (wp_load 𝒱₀ (c : Thread nD τ) none Set.univ (m := swM) (Finset.subset_univ _)) $$ Hsw; iintro Hsw
  iapply (wp_load 𝒱₀ (c : Thread nD τ) none Set.univ (m := wM) (Finset.subset_univ _)) $$ Hw; iintro Hw
  iapply hk
  iapply (enter m K c)
  isplitr; · iexact Hrec
  isplitr; · iexact Hlev
  isplitl [HO]; · iexists _; iexact HO
  isplitl [HtO HtI Hpay HaO]
  · isplitl [HtO]; · iexact HtO
    isplitl [HtI]; · iexact HtI
    isplitl [Hpay]; · iexact Hpay
    iexact HaO
  isplitl [HaI HcI]
  · isplitl [HaI]; · iexact HaI
    iexact HcI
  isplitl [Hr0]; · iexact Hr0
  isplitl [Hr1]; · iexact Hr1
  isplitl [Hx]; · iexact Hx
  isplitl [Hout]; · iexact Hout
  isplitl [HvB HvO HvI]
  · unfold idle
    isplitl [HvB]; · iexact HvB
    isplitl [HvO]; · iexact HvO
    iexact HvI
  · unfold others
    isplitl [Hw]; · iexact Hw
    isplitl [Hsx] <;> iassumption

/-! ## The whole body -/

theorem w_read (c : Dev nD) {off : Fin 2 → ℕ} (h : off = fun _ => 0) (inb : ∀ a, off a + S4096x128.size a ≤ S4096x128.size a) :
    wM.view.readAt (Elt F) (Rect.unit (s := S4096x128) off S4096x128.size inb).toLoadRect (wstg m c) = wstg m c :=
  Memref.readAt_unit_zero (Elt F) cc0_stg1_0 h inb _

theorem part1_spec {c : Dev nD} {Q : _ → sProp 𝕄}
    (hk : ∀ v2 v5 v7, St m K c 1 0 0 0 0 iprop(idle c ∗ others m c) ⊢ Q ⟨c, v2, v5, v7, scale m c, wide m c, 1#32⟩) :
    atStart m K c ⊢ wp frame (wpE (defs₀ (F := F)) 𝒱₀ (c : Thread nD τ) none) Set.univ
        (k0_part1 (Memref.whole cc0_stg0_0) (Memref.isWhole_whole _) (Memref.whole cc0_stg1_0) (Memref.isWhole_whole _) (Memref.whole cc0_stg2_0) (Memref.isWhole_whole _)
          (Memref.whole cc0_stg3_0) (Memref.isWhole_whole _) (Memref.whole cc0_stg4_0) (Memref.isWhole_whole _) (Memref.whole cc0_scratch0) (Memref.isWhole_whole _)
          cc0_scratch1 cc0_scratch2 cc0_scratch3 cc0_scratch4) Q := by
  rw [k0_part1_eq_skeleton]; unfold k0_part1_skel
  simp only [semSignalWord, semWaitWord, smemLoad, smemLoadElt, Prog.lift, Prog.bind_op, Prog.bind_ret, Prog.pure_eq_ret, Prog.bind_assoc, wp_deviceId]
  refine meet m K (by clear * -; revert c; decide +kernel) (by clear * -; revert c; decide +kernel) ?_
  refine x_load_step m K ?_
  refine raw_load_next m K (by decide +kernel) (fun _ => ?_)
  refine own_store_next m K (by decide +kernel) rfl ?_
  rw [w_read m c (funext fun a => by fin_cases a <;> rfl)]
  exact (hk _ _ _).trans (le_wp_ret _ _ _ _ _)

end Cert.RingMatmul

end
-- ==== Proof.Deal.lean ====
/-
  The launch: how the protocol's resources are dealt to the devices, and the run of the whole program.
-/
module

public import proofs.«01_k».proof.Proof.Core

@[expose] public section

set_option maxRecDepth 16384

noncomputable section

namespace Cert.RingMatmul

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

def s₀ : MemSt nD τ sig (Elt F) := ⟨m, fun _ => 0, ρ⟩

/-! ## Cells -/

theorem csem_injective : Function.Injective csem := by
  have h : ∀ k : CI, roleOf (csem k) = match k with | none => .bar | some (true, t) => .out t | some (false, t) => .inn t := by
    rintro (_ | ⟨_ | _, t⟩)
    · exact roleOf_bar
    · exact roleOf_in t
    · exact roleOf_out t
  intro k k' e
  have e' := congrArg roleOf e
  rw [h, h] at e'
  rcases k with _ | ⟨_ | _, t⟩ <;> rcases k' with _ | ⟨_ | _, t'⟩ <;> simp at e' <;> simp [e']

theorem kcell_injective : Function.Injective kcell := by
  rintro ⟨c, k⟩ ⟨c', k'⟩ h
  have h1 : c = c' := congrArg (fun g : GSem nD τ sig => g.1.1) h
  have h2 : k = k' := csem_injective (congrArg Prod.snd h)
  rw [h1, h2]

/-- The kernel's own semaphores. -/
def osem (k : Bool × Tr) : SemLoc sig := csem (some k)

theorem ownSemFacts : Pipeline.OwnSemFacts cfg0.spec osem := by decide +kernel

/-- A family over a device's cells: its barrier cell's member, its departure cells', its arrival cells'. -/
theorem by_kind (Φ : CI → sProp 𝕄) : bigSep Finset.univ Φ
    = iprop(Φ none ∗ (bigSep Finset.univ fun t : Tr => Φ (some (true, t))) ∗ bigSep Finset.univ fun t : Tr => Φ (some (false, t))) := by
  have hu : (Finset.univ : Finset CI) = insert none (Finset.univ.map Function.Embedding.some) := by decide +kernel
  have hn : (none : CI) ∉ (Finset.univ : Finset (Bool × Tr)).map Function.Embedding.some := by decide +kernel
  rw [hu, bigSep_insert hn, bigSep_map, bigSep_univ_prod, bigSep_univ_eq_bigSepL [true, false] (by decide) (by decide),
    bigSepL_cons_cons, bigSepL_singleton]
  rfl

/-! ## What the launch deals -/

def allCells : Finset (GSem nD τ sig) := Finset.univ.map ⟨kcell, kcell_injective⟩

def tokOf (x : (Dev nD × CI) × Bool) : GSem nD τ sig × ℕ × Bool := (kcell x.1, 0, x.2)
theorem tokOf_injective : Function.Injective tokOf := by
  rintro ⟨a, d⟩ ⟨a', d'⟩ h
  have h1 : a = a' := kcell_injective (congrArg Prod.fst h)
  have h2 : d = d' := congrArg (fun x : GSem nD τ sig × ℕ × Bool => x.2.2) h
  rw [h1, h2]
def allToks : Finset (GSem nD τ sig × ℕ × Bool) := Finset.univ.map ⟨tokOf, tokOf_injective⟩

def u₀ : UU :=
  (initOf (Pipeline.cells cfgs cellOf_inj) (Pipeline.launchToks cfgs cellOf_inj), initOf allCells allToks)

/-- The rights to pay the duties of a device's own cells. -/
def toks (c : Dev nD) : sProp 𝕄 := bigSep Finset.univ fun k : CI => bigSep Finset.univ fun d : Bool => dutyTok ER (kcell (c, k)) 0 d

def places (c : Dev nD) : sProp 𝕄 := bigSep Finset.univ fun k : CI => atPos ER (kcell (c, k)) 0 ∅ 0
def marks (c : Dev nD) : sProp 𝕄 := bigSep Finset.univ fun k : CI => reached ER (kcell (c, k)) 0

def G (c : Dev nD) : sProp 𝕄 :=
  iprop((bigSep Finset.univ fun k : CI => roundState ER (rd m) (kcell (c, k)) 0) ∗ places c ∗ marks c ∗ toks c)

def G' (c : Dev nD) : sProp 𝕄 := iprop(∃ K, records m K ∗ linear c)

theorem fund_cells : BI.own (ER (initOf allCells allToks)) ⊢ (|==> bigSep Finset.univ (G m) : sProp 𝕄) := by
  have hX (Φ : GSem nD τ sig → sProp 𝕄) : bigSep allCells Φ = bigSep Finset.univ fun c : Dev nD => bigSep Finset.univ fun k : CI => Φ (kcell (c, k)) := by
    unfold allCells; rw [bigSep_map, bigSep_univ_prod]; rfl
  have hT : bigSep allToks (fun x => (dutyTok ER x.1 x.2.1 x.2.2 : sProp 𝕄)) = bigSep Finset.univ fun c : Dev nD => toks c := by
    unfold allToks toks
    rw [bigSep_map, bigSep_univ_prod, bigSep_univ_prod]
    rfl
  iintro HX
  imod (Rounds.fund ER (rd m) allCells allToks) $$ HX with ⟨Hst, Hr, Hat, Htok⟩
  imodintro
  ihave Hst' := (Entails.of_eq (hX fun g => roundState ER (rd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G places marks; simp only [bigSep_sep']
  isplitl [Hst']; · iexact Hst'
  isplitl [Hat']; · iexact Hat'
  isplitl [Hr']; · iexact Hr'
  iexact Htok'

theorem ownSems0_eq (c : Dev nD) : (Pipeline.ownSems0 (Ix := Unit) (Name := ℕ) (U := UU) (Lvl := ℕ) (Val := Elt F) (τ := τ) osem c : sProp 𝕄)
    = iprop((bigSep Finset.univ fun t : Tr => semVal (outCell c t) 0) ∗ bigSep Finset.univ fun t : Tr => semVal (inCell c t) 0) := by
  unfold Pipeline.ownSems0
  rw [bigSep_univ_prod, bigSep_univ_eq_bigSepL [true, false] (by decide) (by decide), bigSepL_cons_cons, bigSepL_singleton]
  rfl

theorem unscopedSems0_eq (c : Dev nD) : (unscopedSems0 c : sProp 𝕄) = semVal (barCell c) 0 := by
  unfold unscopedSems0; rw [bigSep_eq_bigSepL_of_eq [SemLoc.reg barS] (by decide) (by decide)]; rfl

/-- A device's cells are put under their invariants. -/
theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k : CI => iprop(∃ κ : ℕ, cellInv ER (rd m) κ (kcell (c, k)))) ∗ places c ∗ marks c ∗ toks c) := by
  have hv : iprop(Pipeline.ownSems0 (Ix := Unit) (Name := ℕ) (U := UU) (Lvl := ℕ) (Val := Elt F) (τ := τ) osem c ∗ unscopedSems0 c)
      ⊢ (bigSep Finset.univ fun k : CI => semVal (kcell (c, k)) 0 : sProp 𝕄) := by
    rw [ownSems0_eq, unscopedSems0_eq, by_kind]
    iintro ⟨⟨HS, HV⟩, HB⟩
    isplitl [HB]; · iexact HB
    isplitl [HS]; · iexact HS
    iexact HV
  have ha : iprop((bigSep Finset.univ fun k : CI => semVal (kcell (c, k)) 0) ∗ bigSep Finset.univ fun k : CI => roundState ER (rd m) (kcell (c, k)) 0)
      ⊢ (|={Set.univ}=> bigSep Finset.univ fun k : CI => iprop(∃ κ : ℕ, cellInv ER (rd m) κ (kcell (c, k))) : sProp 𝕄) := by
    rw [← bigSep_sep']
    exact (bigSep_mono fun k _ => (Rounds.body_intro ER (rd m) (kcell (c, k))).trans inv_alloc).trans (bigSep_fupd _ _)
  unfold G
  iintro ⟨Hos, Hus, Hst, Hrest⟩
  ihave Hv := hv $$ [Hos Hus]
  · isplitl [Hos] <;> iassumption
  imod ha $$ [Hv Hst] with Hinv
  · isplitl [Hv] <;> iassumption
  imodintro
  isplitl [Hinv]; · iexact Hinv
  iexact Hrest

/-- The rights a device's own cells' duties come with, those in use. -/
def used (c : Dev nD) : sProp 𝕄 :=
  iprop(dutyTok ER (barCell c) 0 true ∗ dutyTok ER (barCell c) 0 false
    ∗ (bigSep UT fun t => dutyTok ER (outCell c t) 0 true) ∗ bigSep UT fun t => dutyTok ER (inCell c t) 0 true)
/-- The rights a device pays with. -/
def paying (c : Dev nD) : sProp 𝕄 :=
  iprop(dutyTok ER (barCell (prv c)) 0 true ∗ dutyTok ER (barCell (nxt c)) 0 false
    ∗ (bigSep UT fun t => dutyTok ER (outCell c t) 0 true) ∗ bigSep UT fun t => dutyTok ER (inCell (t.dev c) t) 0 true)

theorem drop_second (A B : sProp 𝕄) : iprop(A ∗ B) ⊢ A := by iintro ⟨H, -⟩; iexact H

theorem toks_used (c : Dev nD) : toks c ⊢ (used c : sProp 𝕄) := by
  have hd : ∀ k : CI, (bigSep Finset.univ fun d : Bool => dutyTok ER (kcell (c, k)) 0 d)
      = (iprop(dutyTok ER (kcell (c, k)) 0 true ∗ dutyTok ER (kcell (c, k)) 0 false) : sProp 𝕄) := fun k => by
    rw [bigSep_univ_eq_bigSepL [true, false] (by decide) (by decide), bigSepL_cons_cons, bigSepL_singleton]; rfl
  have hs : ∀ o : Bool, (bigSep Finset.univ fun t : Tr => (iprop(dutyTok ER (kcell (c, some (o, t))) 0 true ∗ dutyTok ER (kcell (c, some (o, t))) 0 false) : sProp 𝕄))
      ⊢ bigSep UT fun t : Tr => (dutyTok ER (kcell (c, some (o, t))) 0 true : sProp 𝕄) := fun o =>
    BIBase.Entails.trans (bigSep_subset (Finset.subset_univ UT)) (bigSep_mono fun t _ => drop_second _ _)
  unfold toks used
  rw [bigSep_congr fun k _ => hd k, by_kind]
  iintro ⟨⟨H1, H2⟩, HO, HI⟩
  isplitl [H1]; · iexact H1
  isplitl [H2]; · iexact H2
  isplitl [HO]
  · iapply (hs true); iexact HO
  · iapply (hs false); iexact HI

/-- Two nested families, the other way around. -/
theorem bigSep_swapped {ι κ : Type} [DecidableEq ι] [DecidableEq κ] (S : Finset ι) (T : Finset κ) (Φ : ι → κ → sProp 𝕄) :
    (bigSep S fun i => bigSep T fun k => Φ i k) ⊢ bigSep T fun k => bigSep S fun i => Φ i k := by
  induction T using Finset.induction_on with
  | empty => rw [bigSep_empty]; iintro -; iempintro
  | insert k T hk ih =>
    rw [bigSep_insert hk, bigSep_congr fun i _ => bigSep_insert hk (Φ := fun k => Φ i k)]
    show (bigSep S fun i => iprop(Φ i k ∗ bigSep T fun k => Φ i k)) ⊢ _
    rw [bigSep_sep']
    exact sep_mono_right ih

/-- Each right goes to the device that pays with it. -/
theorem toks_dealt : (bigSep Finset.univ fun c : Dev nD => (toks c : sProp 𝕄)) ⊢ bigSep Finset.univ fun c : Dev nD => paying c := by
  refine BIBase.Entails.trans (bigSep_mono fun c _ => toks_used c) ?_
  have hin : (bigSep Finset.univ fun c : Dev nD => bigSep UT fun t => (dutyTok ER (inCell c t) 0 true : sProp 𝕄))
      ⊢ bigSep Finset.univ fun c : Dev nD => bigSep UT fun t => dutyTok ER (inCell (t.dev c) t) 0 true := by
    refine BIBase.Entails.trans (bigSep_swapped _ _ _) ?_
    refine BIBase.Entails.trans (Entails.of_eq (bigSep_congr fun t _ => bigSep_univ_equiv (turn t.1) fun c : Dev nD => (dutyTok ER (inCell c t) 0 true : sProp 𝕄))) ?_
    exact bigSep_swapped _ _ _
  unfold used paying
  rw [bigSep_sep', bigSep_sep', bigSep_sep', bigSep_sep', bigSep_sep', bigSep_sep',
    bigSep_univ_equiv (turn false) (fun c : Dev nD => (dutyTok ER (barCell c) 0 true : sProp 𝕄)),
    bigSep_univ_equiv (turn true) (fun c : Dev nD => (dutyTok ER (barCell c) 0 false : sProp 𝕄))]
  iintro ⟨H1, H2, H3, H4⟩
  isplitl [H1]; · iexact H1
  isplitl [H2]; · iexact H2
  isplitl [H3]; · iexact H3
  iapply hin; iexact H4

theorem regroup :
    (bigSep Finset.univ fun c : Dev nD => iprop((bigSep Finset.univ fun k : CI => iprop(∃ κ : ℕ, cellInv ER (rd m) κ (kcell (c, k))))
        ∗ places c ∗ marks c ∗ toks c) : sProp 𝕄) ⊢ bigSep Finset.univ (G' m) := by
  have hl : (bigSep Finset.univ fun c : Dev nD => iprop(places c ∗ paying c)) ⊢ (bigSep Finset.univ fun c : Dev nD => linear c : sProp 𝕄) :=
    bigSep_mono fun c _ => by
      show iprop(places c ∗ paying c) ⊢ linear c
      unfold places paying linear
      rw [by_kind]
      iintro ⟨⟨H1, H2, H3⟩, H4, H5, H6, H7⟩
      isplitl [H1]; · iexact H1
      isplitl [H2]; · iexact H2
      isplitl [H3]; · iexact H3
      isplitl [H4]; · iexact H4
      isplitl [H5]; · iexact H5
      isplitl [H6]; · iexact H6
      iexact H7
  rw [bigSep_sep', bigSep_sep', bigSep_sep', ← bigSep_univ_prod (fun ck : Dev nD × CI => iprop(∃ κ : ℕ, cellInv ER (rd m) κ (kcell ck)))]
  unfold marks
  rw [← bigSep_univ_prod (fun ck : Dev nD × CI => (reached ER (kcell ck) 0 : sProp 𝕄))]
  iintro ⟨HI, Hat, #HR, Htok⟩
  ihave HK := (BI.bigSep_exists_pi Finset.univ (fun (ck : Dev nD × CI) (κ : ℕ) => (cellInv ER (rd m) κ (kcell ck) : sProp 𝕄))) $$ HI
  icases HK with ⟨%K, #HI⟩
  ihave Htk := (toks_dealt (F := F)) $$ Htok
  iapply (bigSep_with_persistent (R := records m K) (Φ := fun c : Dev nD => linear c) (Ψ := G' m) fun c _ => by
    unfold G'; iintro ⟨HR, HL⟩; iexists K; isplitl [HR] <;> iassumption)
  isplitr
  · unfold records
    isplitl; · iexact HI
    iexact HR
  · iapply hl
    rw [bigSep_sep']
    isplitl [Hat]; · iexact Hat
    iexact Htk

theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

end Cert.RingMatmul

end
-- ==== Proof.Run.lean ====
/-
  The run of the whole program: what the launch is owed, the kernel's proof data, and the launch theorem applied.
-/
module

public import proofs.«01_k».proof.Proof.Deal
public import Idealize.ShloMosaic.Lib.Pipeline.Launch
public import Idealize.ShloMosaic.Lib.Pipeline.Kit
public import Idealize.ShloMosaic.Lib.Pipeline.CollectiveSegs
public import proofs.«01_k».proof.Proof.Gen.KernelIdeal.Points

@[expose] public section

set_option maxRecDepth 16384

noncomputable section

namespace Cert.RingMatmul

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ UU ℕ

variable (m : (ℓ : Loc nD τ sig) → Buf (Elt F) ℓ) (ρ : Dev nD → PrngReg)

/-! ## Credits at launch -/

theorem sends_nodup : sends.Nodup := by decide +kernel
theorem mem_sends : ∀ t ∈ UT, t ∈ sends := by decide +kernel

theorem in_eq {c d : Dev nD} {t u : Tr} (h : inCell c t = inCell d u) : c = d ∧ t = u := by
  have h' := kcell_injective (a₁ := (c, some (false, t))) (a₂ := (d, some (false, u))) h
  simp only [Prod.mk.injEq, Option.some.injEq, true_and] at h'
  exact h'
theorem bar_eq {c d : Dev nD} (h : barCell c = barCell d) : c = d :=
  congrArg (fun g : GSem nD τ sig => g.1.1) h
theorem in_ne_bar (c d : Dev nD) (t : Tr) : inCell c t ≠ barCell d := fun h => by
  have h' := kcell_injective (a₁ := (c, some (false, t))) (a₂ := (d, none)) h
  simp at h'

/-- A device owes an arrival cell one block if the transfer is on its list and goes to that cell's device. -/
theorem owed_in (c d : Dev nD) (t : Tr) {l : List Tr} (hl : l.Nodup) :
    owed d l (inCell c t) () = if d = (turn t.1).symm c ∧ t ∈ l then N else 0 := by
  induction l with
  | nil => rw [if_neg (fun h => by simp at h)]; rfl
  | cons u l ih =>
    have hn := List.nodup_cons.mp hl
    unfold owed
    rw [Pi.add_apply, Finsupp.add_apply, ih hn.2, tallyAt_apply]
    by_cases hu : t = u
    · subst hu
      rw [if_neg (fun h => hn.1 h.2), Nat.zero_add]
      have hd : (inCell c t = inCell (t.dev d) t ∧ () = ()) ↔ (d = (turn t.1).symm c ∧ t ∈ t :: l) :=
        ⟨fun h => ⟨((turn t.1).symm_apply_eq.mpr (in_eq h.1).1).symm, List.mem_cons_self⟩,
          fun h => ⟨congrArg (fun e => inCell e t) ((turn t.1).symm_apply_eq.mp h.1.symm), rfl⟩⟩
      exact if_congr hd rfl rfl
    · rw [if_neg (fun h : inCell c t = inCell (u.dev d) u ∧ () = () => hu (in_eq h.1).2), Nat.add_zero]
      simp only [List.mem_cons, hu, _root_.false_or]

theorem owed_no_bar (c d : Dev nD) (l : List Tr) : owed d l (barCell c) () = 0 :=
  Nat.eq_zero_of_not_pos fun h => by
    obtain ⟨t, -, ht⟩ := owed_pos h
    exact in_ne_bar _ _ _ ht.symm

theorem signal_at (c d e : Dev nD) : (tallyAt (barCell e) () 1 : CellTallies nD τ sig Unit) (barCell c) () = if c = e then 1 else 0 := by
  rw [tallyAt_apply]
  by_cases h : c = e
  · rw [if_pos ⟨congrArg barCell h, rfl⟩, if_pos h]
  · rw [if_neg (fun h' => h (bar_eq h'.1)), if_neg h]

theorem O₀_in (c d : Dev nD) {t : Tr} (ht : t ∈ UT) : O₀ d (inCell c t) () = if d = (turn t.1).symm c then N else 0 := by
  unfold O₀ O₁
  rw [Pi.add_apply, Finsupp.add_apply, Pi.add_apply, Finsupp.add_apply, owed_in c d t sends_nodup, tallyAt_apply, tallyAt_apply,
    if_neg (fun h : inCell c t = barCell (nxt d) ∧ () = () => in_ne_bar _ _ _ h.1), if_neg (fun h : inCell c t = barCell (prv d) ∧ () = () => in_ne_bar _ _ _ h.1)]
  simp only [mem_sends t ht, and_true, Nat.add_zero]

theorem O₀_bar (c d : Dev nD) : O₀ d (barCell c) () = (if d = prv c then 1 else 0) + if d = nxt c then 1 else 0 := by
  unfold O₀ O₁
  rw [Pi.add_apply, Finsupp.add_apply, Pi.add_apply, Finsupp.add_apply, owed_no_bar, signal_at c d, signal_at c d, Nat.zero_add]
  have h1 : (c = nxt d) ↔ d = prv c := ⟨fun h => by rw [h, prv_nxt], fun h => by rw [h, nxt_prv]⟩
  have h2 : (c = prv d) ↔ d = nxt c := ⟨fun h => by rw [h, nxt_prv], fun h => by rw [h, prv_nxt]⟩
  simp only [h1, h2]

theorem credit_in (c : Dev nD) {t : Tr} (ht : t ∈ UT) :
    tallyOn (inCell c t) (launchCredit (Pipeline.owing O₀) 0 (inCell c t)) = (tallyAt (inCell c t) () N : CellTallies nD τ sig Unit) := by
  unfold tallyAt; refine congrArg _ (Finsupp.ext fun u => ?_); cases u
  rw [Pipeline.launchCredit_owing, Finsupp.single_eq_same, Finset.sum_congr rfl fun d _ => O₀_in c d ht, Finset.sum_ite_eq' Finset.univ _ fun _ => N,
    if_pos (Finset.mem_univ _)]

theorem credit_bar (c : Dev nD) :
    tallyOn (barCell c) (launchCredit (Pipeline.owing O₀) 0 (barCell c)) = (tallyAt (barCell c) () 2 : CellTallies nD τ sig Unit) := by
  unfold tallyAt; refine congrArg _ (Finsupp.ext fun u => ?_); cases u
  rw [Pipeline.launchCredit_owing, Finsupp.single_eq_same, Finset.sum_congr rfl fun d _ => O₀_bar c d, Finset.sum_add_distrib,
    Finset.sum_ite_eq' Finset.univ _ fun _ => 1, Finset.sum_ite_eq' Finset.univ _ fun _ => 1, if_pos (Finset.mem_univ _), if_pos (Finset.mem_univ _)]

theorem creds (c : Dev nD) : (Pipeline.launchCred O₀ c : sProp 𝕄) ⊢ credits c := by
  let at_in : Tr ↪ SemLoc sig := ⟨fun t => .dma (inQ t), fun t u h => (in_eq (c := c) (d := c) (congrArg (fun s => ((c : Thread nD τ), s)) h)).2⟩
  have hs : UT.map at_in ⊆ Finset.univ.erase (SemLoc.reg barS) := fun s hs => by
    obtain ⟨t, -, rfl⟩ := Finset.mem_map.mp hs
    exact Finset.mem_erase.mpr ⟨fun h => in_ne_bar c c t (congrArg (fun s => ((c : Thread nD τ), s)) h), Finset.mem_univ _⟩
  have hi : (bigSep UT fun t => cred (tallyOn (inCell c t) (launchCredit (Pipeline.owing O₀) 0 (inCell c t))))
      = (bigSep UT fun t => cred (tallyAt (inCell c t) () N) : sProp 𝕄) := bigSep_congr fun t ht => by rw [credit_in c ht]
  unfold Pipeline.launchCred credits
  rw [bigSep_univ_at _ (SemLoc.reg barS), credit_bar, ← hi]
  refine sep_mono_right ?_
  refine BIBase.Entails.trans (bigSep_subset hs) ?_
  rw [bigSep_map]
  exact Entails.of_eq rfl

/-! ## Proof data -/

theorem one_point : cfg0.N = 1 := by decide
def t₀ : Fin cfg0.N := ⟨0, by rw [one_point]; decide⟩
theorem fin_N (t : Fin cfg0.N) : t = t₀ := by
  obtain ⟨t, ht⟩ := t
  have := one_point
  exact Fin.ext (by simp only [t₀]; omega)

/-- What a device's body starts from besides its operands and the scratch. -/
def start (c : Dev nD) : sProp 𝕄 := iprop((∃ K, records m K ∗ linear c) ∗ credits c ∗ levAts L lv)

def Φ₀ (c : Dev nD) : sProp 𝕄 := iprop(start m c ∗ ∃ f, ((c : Thread nD τ).loc cc0_scratch0) ↦{fullShare} f)
/-- What it ends with: every block gathered, and all counters at zero. -/
def Φ₁ (c : Dev nD) : sProp 𝕄 :=
  iprop((((c : Thread nD τ).loc cc0_scratch0) ↦{fullShare} gathF m c) ∗ (bigSep UT fun t => semVal (outCell c t) 0) ∗ (bigSep UT fun t => semVal (inCell c t) 0) ∗ idle c)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m c
    | ⟨1, _⟩ => wstg m c
    | ⟨2, _⟩ => sxstg m c
    | ⟨3, _⟩ => swstg m c
    | ⟨4, _⟩ => outF m c
  Φ t := match t with
    | ⟨0, _⟩ => Φ₀ m c
    | ⟨_ + 1, _⟩ => Φ₁ m c
  q _ := fullShare
  owed t := match t with
    | ⟨0, _⟩ => O₀ c
    | ⟨_ + 1, _⟩ => 0

def stg (c : Dev nD) (b : Ref sig .tc) (X : b.ty.Contents (Elt F)) : sProp 𝕄 :=
  iprop(∃ f : Buf (Elt F) ((c : Thread nD τ).loc b), ⌜f = X⌝ ∗ (((c : Thread nD τ).loc b) ↦{fullShare} f))

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄) = stg c b X := by
  unfold owns stg; simp only [Memref.view_whole, View.read_whole, View.set_whole]

theorem stg_intro (c : Dev nD) (b : Ref sig .tc) (X : b.ty.Contents (Elt F)) : ((((c : Thread nD τ).loc b) ↦{fullShare} X) : sProp 𝕄) ⊢ stg c b X := by
  unfold stg
  iintro H
  iexists X
  isplitr; · ipureintro; rfl
  iexact H
theorem stg_elim (c : Dev nD) (b : Ref sig .tc) {X Y : b.ty.Contents (Elt F)} (h : X = Y) : stg c b X ⊢ ((((c : Thread nD τ).loc b) ↦{fullShare} Y) : sProp 𝕄) := by
  subst h
  unfold stg
  iintro ⟨%f, %hf, H⟩
  subst hf
  iexact H

/-- What the five operands' buffers hold when the body starts. -/
theorem before_0 (c : Dev nD) (d) : (dats m ρ 0 c).before (0 : Fin 5) t₀ d = xstg m c := by unfold Dat.before; rw [if_pos (fetch0_0 t₀)]; rfl
theorem before_1 (c : Dev nD) (d) : (dats m ρ 0 c).before (1 : Fin 5) t₀ d = wstg m c := by unfold Dat.before; rw [if_pos (fetch0_1 t₀)]; rfl
theorem before_2 (c : Dev nD) (d) : (dats m ρ 0 c).before (2 : Fin 5) t₀ d = sxstg m c := by unfold Dat.before; rw [if_pos (fetch0_2 t₀)]; rfl
theorem before_3 (c : Dev nD) (d) : (dats m ρ 0 c).before (3 : Fin 5) t₀ d = swstg m c := by unfold Dat.before; rw [if_pos (fetch0_3 t₀)]; rfl

def bodyPre (c : Dev nD) : sProp 𝕄 :=
  iprop(Φ₀ m c ∗ (dats m ρ 0 c).owesAt () t₀.castSucc
    ∗ (∃ d, stg c cc0_stg0_0 ((dats m ρ 0 c).before (0 : Fin 5) t₀ d)) ∗ (∃ d, stg c cc0_stg1_0 ((dats m ρ 0 c).before (1 : Fin 5) t₀ d))
    ∗ (∃ d, stg c cc0_stg2_0 ((dats m ρ 0 c).before (2 : Fin 5) t₀ d)) ∗ (∃ d, stg c cc0_stg3_0 ((dats m ρ 0 c).before (3 : Fin 5) t₀ d))
    ∗ (∃ d, stg c cc0_stg4_0 ((dats m ρ 0 c).before (4 : Fin 5) t₀ d)))

def bodyPost (c : Dev nD) : sProp 𝕄 :=
  iprop(Φ₁ m c ∗ (dats m ρ 0 c).owesAt () t₀.succ ∗ stg c cc0_stg0_0 (xstg m c) ∗ stg c cc0_stg1_0 (wstg m c) ∗ stg c cc0_stg2_0 (sxstg m c)
    ∗ stg c cc0_stg3_0 (swstg m c) ∗ stg c cc0_stg4_0 (outF m c))

theorem begin_body (c : Dev nD) : bodyPre m ρ c ⊢ iprop(∃ K, atStart m K c) := by
  unfold bodyPre Φ₀ start Dat.owesAt Pipeline.owesWithin
  iintro ⟨⟨⟨⟨%K, HK, Hl⟩, Hc, HL⟩, Hs⟩, ⟨%W, %hW, Ho⟩, ⟨%d0, H0⟩, ⟨%d1, H1⟩, ⟨%d2, H2⟩, ⟨%d3, H3⟩, ⟨%d4, H4⟩⟩
  iexists K
  unfold atStart others
  isplitl [HK]; · iexact HK
  isplitl [HL]; · iexact HL
  isplitl [Hl]; · iexact Hl
  isplitl [Hc]; · iexact Hc
  isplitl [Ho]; · iexists W; iexact Ho
  isplitl [Hs]; · iexact Hs
  isplitl [H0]; · iapply (stg_elim c cc0_stg0_0 (before_0 m ρ c d0)); iexact H0
  isplitl [H1 H2 H3]
  · isplitl [H1]; · iapply (stg_elim c cc0_stg1_0 (before_1 m ρ c d1)); iexact H1
    isplitl [H2]; · iapply (stg_elim c cc0_stg2_0 (before_2 m ρ c d2)); iexact H2
    iapply (stg_elim c cc0_stg3_0 (before_3 m ρ c d3)); iexact H3
  iexists _
  iapply (stg_elim c cc0_stg4_0 rfl); iexact H4

theorem end_body (K : Dev nD × CI → ℕ) (c : Dev nD) : St m K c 2 30 30 30 17 iprop(idle c ∗ others m c) ⊢ bodyPost m ρ c := by
  refine BIBase.Entails.trans (finish m K c iprop(idle c ∗ others m c)) ?_
  unfold bodyPost Φ₁ Dat.owesAt Pipeline.owesWithin others
  rw [show (dats m ρ 0 c).owed t₀.succ = 0 from rfl]
  iintro ⟨⟨%W, Ho⟩, Hs, HO, HI, H0, H4, Hi, H1, H2, H3⟩
  isplitl [Hs HO HI Hi]
  · isplitl [Hs]; · iexact Hs
    isplitl [HO]; · iexact HO
    isplitl [HI]; · iexact HI
    iexact Hi
  isplitl [Ho]
  · iexists W
    isplitr; · ipureintro; exact fun _ _ => Or.inl trivial
    iexact Ho
  isplitl [H0]; · iapply (stg_intro c cc0_stg0_0 (xstg m c)); iexact H0
  isplitl [H1]; · iapply (stg_intro c cc0_stg1_0 (wstg m c)); iexact H1
  isplitl [H2]; · iapply (stg_intro c cc0_stg2_0 (sxstg m c)); iexact H2
  isplitl [H3]; · iapply (stg_intro c cc0_stg3_0 (swstg m c)); iexact H3
  iapply (stg_intro c cc0_stg4_0 (outF m c)); iexact H4

theorem body_obligation (c : Dev nD) : BodyObligation (dats (F := F) m ρ 0 c) (defs₀ (F := F)) 𝒱₀ () Set.univ := fun t => by
  rw [fin_N t]
  rw [bigSep_W0, bigSep_W0]
  simp only [owns_whole_eq]
  show bodyPre m ρ c ⊢ wp frame (wpE (defs₀ (F := F)) 𝒱₀ (c : Thread nD τ) none) Set.univ
    (cc0_body (Memref.whole cc0_stg0_0) (Memref.isWhole_whole _) (Memref.whole cc0_stg1_0) (Memref.isWhole_whole _) (Memref.whole cc0_stg2_0) (Memref.isWhole_whole _)
      (Memref.whole cc0_stg3_0) (Memref.isWhole_whole _) (Memref.whole cc0_stg4_0) (Memref.isWhole_whole _) (Memref.whole cc0_scratch0) (Memref.isWhole_whole _)
      cc0_scratch1 cc0_scratch2 cc0_scratch3 cc0_scratch4) (fun _ => bodyPost m ρ c)
  refine BIBase.Entails.trans (begin_body m ρ c) ?_
  iintro ⟨%K, H⟩
  iapply (body_run m K (R := iprop(idle c ∗ others m c)) (P := atStart m K c) (Q := fun _ => bodyPost m ρ c) (end_body m ρ K c) fun Q' h => part1_spec m K h)
  iexact H

/-! ## Side conditions of the launch -/

theorem share_eq (c : Dev nD) (w : Fin cfg0.W) : (dats m ρ 0 c).share w = fullShare := by unfold Dat.share; split <;> rfl

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  unfold start G'
  iintro ⟨-, HL, Hcr, -, HG⟩
  ihave Hc := (creds (F := F) c) $$ Hcr
  imodintro
  isplitl
  · isplitl [HG]; · iexact HG
    isplitl [Hc]; · iexact Hc
    iexact HL
  · iempintro

theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scopedRest0_eq]
  unfold Φ₀
  iintro ⟨Hs, -, Hr⟩
  isplitl [Hs]; · iexact Hs
  iexact Hr

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ m c from rfl, scopedRest0_eq, ownSems0_eq, unscopedSems0_eq,
    bigSep_sdiff_split (Finset.subset_univ UT) (Φ := fun t : Tr => (semVal (outCell c t) 0 : sProp 𝕄)),
    bigSep_sdiff_split (Finset.subset_univ UT) (Φ := fun t : Tr => (semVal (inCell c t) 0 : sProp 𝕄))]
  unfold Φ₁ idle
  show _ ⊢ iprop(semVal (barCell c) 0 ∗ (((bigSep UT fun t => semVal (outCell c t) 0) ∗ bigSep (Finset.univ \ UT) fun t => semVal (outCell c t) 0)
    ∗ ((bigSep UT fun t => semVal (inCell c t) 0) ∗ bigSep (Finset.univ \ UT) fun t => semVal (inCell c t) 0)) ∗ _)
  iintro ⟨Hs, HO, HI, HB, HO', HI'⟩
  isplitl [HB]; · iexact HB
  isplitl [HO HI HO' HI']
  · isplitl [HO HO']
    · isplitl [HO]; · iexact HO
      iexact HO'
    · isplitl [HI]; · iexact HI
      iexact HI'
  iexists (gathF m c); iexact Hs

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide +kernel) _ (by
      rcases t with ⟨_ | _, ht⟩
      · exact Or.inl rfl
      · exact Or.inr rfl)

/-! ## The run -/

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

/-- Every run of the program from zero counters ends, each array as computed and every counter at zero again. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m) (G' := G' m) (u₀ := u₀)
    (hu₀ := by
      unfold u₀
      iintro Hu
      ihave H := (ownU_pair _ _) $$ Hu
      icases H with ⟨HP, HX⟩
      imod (fund_cells m) $$ HX with HG
      imodintro
      isplitl [HP] <;> iassumption)
    (hglob := glob m)
    (hA := fun _ _ => rfl) (hpf := fun _ k => k.elim0)
    (X := start m) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

end Cert.RingMatmul

end
-- ==== Proof.Outcome.lean ====
/-
  What a run of the program leaves in memory: the result array of each device, and its arguments as they were.
-/
module

public import proofs.«01_k».proof.Proof.Run
public import Idealize.ShloMosaic.Lib.Pipeline.Value
public import Idealize.ShloMosaic.Lib.Pipeline.Launch
public import Idealize.ShloMosaic.Lib.Pipeline.Kit
public import Idealize.ShloMosaic.Lib.Pipeline.CollectiveSegs
public import proofs.«01_k».proof.Proof.Gen.KernelIdeal.Points

@[expose] public section

set_option maxRecDepth 16384

noncomputable section

namespace Cert.RingMatmul

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ UU ℕ

variable (m : (ℓ : Loc nD τ sig) → Buf (Elt F) ℓ) (ρ : Dev nD → PrngReg)

/-- The arguments' windows write nothing back. -/
theorem kept (c : Dev nD) (w : Fin cfg0.W) (hw : (cfg0.win w).isOut = false) : finalA m ρ c w = (s₀ m ρ).mem ((cfg0.win w).arr.view.loc (c : Thread nD τ)) :=
  (dats m ρ 0 c).arrAt_in w hw _

/-- The window of a whole array has the array for its one block. -/
theorem whole_block {sig : RefSig} {s : Shape} {e : EltTy} {cs : CoreSpace} (arr : Memref sig .tc .hbm s e) (isOut sync : Bool) (stage : Memref sig .tc (.core cs) ⟨s.rank, s.size⟩ e)
    (sem : DmaSem sig) (harr : arr.IsWhole) (hstage : stage.IsWhole) (t) (j : s.Idx) :
    ((Pipeline.Window.whole arr isOut sync stage sem harr hstage).blk t).view.emb j = arr.view.emb j := by
  refine congrArg arr.view.emb (funext fun a => Fin.ext ?_)
  show 0 * s.size a + 1 * (j a).val = (j a).val
  omega

theorem flush_out (c : Dev nD) : finalA m ρ c (4 : Fin 5) = outF m c := by
  unfold finalA
  refine Pipeline.Dat.arrAt_eq_of_cover (dats m ρ 0 c) (4 : Fin 5) (outF m c) (fun t _ => ?_) fun i => ⟨t₀, flush0_4 t₀, ?_⟩
  · rw [fin_N t]
    funext j
    exact (congrArg (outF m c) (whole_block (Memref.whole main_v1) true false (stage0_4 0) (sem0_4 0) (Memref.isWhole_whole _) (hstage0_4 0) _ j)).symm
  · exact Finset.mem_map.mpr ⟨i, Finset.mem_univ _, whole_block (Memref.whole main_v1) true false (stage0_4 0) (sem0_4 0) (Memref.isWhole_whole _) (hstage0_4 0) _ i⟩

/-- Every run ends with each device's result computed, its arguments as they were, and all counters at zero. -/
theorem outcome : θ_run defs (onTc (τ := τ) (main (F := F))) (s₀ m ρ) (fun r => (∀ c : Dev nD,
      r.2.mem ((c.tc : Thread nD τ).loc main_v1) = outF m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) ∧ r.2.sem = fun _ => 0) :=
  (θ_run defs _ _).mono (fun r h => ⟨fun c => ⟨(h.1 c 4).trans (flush_out m ρ c), (h.1 c 0).trans (kept m ρ c 0 rfl), (h.1 c 1).trans (kept m ρ c 1 rfl),
    (h.1 c 2).trans (kept m ρ c 2 rfl), (h.1 c 3).trans (kept m ρ c 3 rfl)⟩, h.2⟩) (run_main m ρ)

end Cert.RingMatmul

end
-- ==== Proof.Same.lean ====
/-
  The program at the machine's arithmetic and the program at exact arithmetic are the same text, so what is proved of the one,
  for any arithmetic, holds of the other.
-/
module

public import proofs.«01_k».proof.Defs
public import proofs.«01_k».proof.Proof.Outcome
public import proofs.«01_k».proof.Proof.Gen.Kernel

@[expose] public section

set_option maxRecDepth 65536

noncomputable section

namespace Cert.RingMatmul

open Idealize.ShloMosaic
open Idealize.ShloMosaic.TcCoe
open Idealize.SL.Sem

variable {F : FTy → Type} [FloatOps F]

/-- The kernels' tables are the same, -/
theorem table_same : Cert.Kernel.defs₀ (F := F) = Cert.KernelIdeal.defs₀ (F := F) := by
  refine congrArg (Defs.onTc (nD := Cert.KernelIdeal.nD) (τ := Cert.KernelIdeal.τ) (sig := Cert.KernelIdeal.sig) (Val := Elt F) (Λ := Cert.KernelIdeal.Λ₀))
    (funext fun l => funext fun a => ?_)
  match l, a with
  | ⟨0, _⟩, (t, s) => rfl

/-- the pipelines' tables, -/
theorem defs_same : Cert.Kernel.defs (F := F) = Cert.KernelIdeal.defs (F := F) := congrArg (Pipeline.defs Cert.KernelIdeal.pcfgs) table_same

/-- and the programs. -/
theorem main_same : Cert.Kernel.main (F := F) = Cert.KernelIdeal.main (F := F) := rfl

/-- What every run of the one does, every run of the other does. -/
theorem run_same (s : MemSt Cert.KernelIdeal.nD Cert.KernelIdeal.τ Cert.KernelIdeal.sig (Elt F)) (Q)
    (h : θ_run Cert.KernelIdeal.defs (onTc (τ := Cert.KernelIdeal.τ) (Cert.KernelIdeal.main (F := F))) s Q) :
    θ_run Cert.Kernel.defs (onTc (τ := Cert.Kernel.τ) (Cert.Kernel.main (F := F))) s Q :=
  Eq.mpr (congrArg₂ (fun d p => θ_run d (onTc (τ := Cert.KernelIdeal.τ) p) s Q) (defs_same (F := F)) (main_same (F := F))) h

/-- The kernel's frame, at the machine's arithmetic. -/
theorem frame_bits : Cert.quiescent_Kernel (hKernel := Cert.Kernel.Gen.facts) := fun m g _ =>
  run_same (F := Bits) _ _ ((θ_run Cert.KernelIdeal.defs _ _).mono (fun _ h => ⟨fun c => (h.1 c).2, h.2⟩) (outcome (F := Bits) m g))

end Cert.RingMatmul

end
-- ==== Proof.Values.lean ====
/-
  The result of a device, entry by entry, at exact arithmetic: the sum over the columns of a row of the whole of `x` with a
  column of the device's part of `w`, scaled, and cut off below zero.
-/
module

public import proofs.«01_k».proof.Proof.Outcome
public import Idealize.ShloMosaic.Lib.Pipeline.Value
public import Idealize.ShloMosaic.Lib.MatmulPlain
public import Idealize.ShloMosaic.Lib.Layout
public import Idealize.ShloMosaic.Lib.Pipeline.Launch
public import Idealize.ShloMosaic.Lib.Pipeline.Kit
public import Idealize.ShloMosaic.Lib.Pipeline.CollectiveSegs
public import proofs.«01_k».proof.Proof.Gen.KernelIdeal.Points

@[expose] public section

set_option maxRecDepth 16384

noncomputable section

namespace Cert.RingMatmul

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

/-- A scaled sum, cut off below zero. -/
def act (s t : Ideal .f32) : Ideal .f32 := FloatOps.maximumf (FloatOps.mulf s t) (Scalar.ofBits .f32 0x00000000#32)

/-- A product of matrices accumulated on zeros, scaled and cut off, at an entry. -/
theorem act_product {R C : ℕ} {φ ψ : FTy} (l : FVec Ideal ⟨2, ![R, 4096]⟩ φ) (r : FVec Ideal ⟨2, ![4096, C]⟩ ψ) (t : Ideal .f32) (i : Fin R) (j : Fin C) :
    maximumf (mulf (matmul (DotDims.plain R 4096 C) none l r (constant ⟨2, ![R, C]⟩ .f32 0x00000000#32)) (broadcast ⟨2, ![R, C]⟩ t))
        (broadcast ⟨2, ![R, C]⟩ (Scalar.ofBits (F := Ideal) .f32 0x00000000#32)) (ValueIdx.ix2 i j)
      = act (∑ k : Fin 4096, l (ValueIdx.ix2 i k) * r (ValueIdx.ix2 k j)) t := by
  have h := Ideal.matmul_plain_apply none l r (constant (F := Ideal) ⟨2, ![R, C]⟩ .f32 0x00000000#32) i j
  have hz : (constant (F := Ideal) ⟨2, ![R, C]⟩ .f32 0x00000000#32) (ValueIdx.ix2 i j) = 0 := Ideal.ofBits_zero_f32
  rw [hz, zero_add] at h
  exact congrArg (fun s => act s t) h

/-- An index of a matrix by its row and its column. -/
theorem ix2_lib {R C : ℕ} (i : Fin R) (j : Fin C) : (ix2 (d := ![R, C]) i j) = ValueIdx.ix2 i j := by
  funext a; fin_cases a <;> rfl

/-- The product of a whole slot, at an entry. -/
theorem pay5_at (t : Ideal .f32) (w : FVec Ideal S4096x128 .bf16) (v : Vec Ideal S1x256x4096 .fp8e4m3) (i : Fin 256) (j : Fin 128) :
    k0_pay5 t w v (ix2 (d := ![256, 128]) i j)
      = act (∑ k : Fin 4096, (v (Fin.cons ⟨0, Nat.one_pos⟩ (ix2 (d := ![256, 4096]) i k)) : EReal) * w (ix2 (d := ![4096, 128]) k j)) t := by
  simp only [ix2_lib]
  refine (act_product (extf .bf16 (shapeCast S256x4096 v shapeCasts_S1x256x4096_S256x4096) bitsLt_fp8e4m3_bf16) w t i j).trans ?_
  refine congrArg (fun s => act s t) (Finset.sum_congr rfl fun k _ => ?_)
  exact congrArg (fun x : EReal => x * w (ValueIdx.ix2 k j)) (shapeCast_dropUnit_apply ![256, 4096] v shapeCasts_S1x256x4096_S256x4096 (ValueIdx.ix2 i k))

/-- The product of half a slot, at an entry. -/
theorem pay22_at (t : Ideal .f32) (w : FVec Ideal S4096x128 .bf16) (v : Vec Ideal S1x128x4096 .fp8e4m3) (i : Fin 128) (j : Fin 128) :
    k0_pay22 t w v (ix2 (d := ![128, 128]) i j)
      = act (∑ k : Fin 4096, (v (Fin.cons ⟨0, Nat.one_pos⟩ (ix2 (d := ![128, 4096]) i k)) : EReal) * w (ix2 (d := ![4096, 128]) k j)) t := by
  simp only [ix2_lib]
  refine (act_product (extf .bf16 (shapeCast S128x4096 v shapeCasts_S1x128x4096_S128x4096) bitsLt_fp8e4m3_bf16) w t i j).trans ?_
  refine congrArg (fun s => act s t) (Finset.sum_congr rfl fun k _ => ?_)
  exact congrArg (fun x : EReal => x * w (ValueIdx.ix2 k j)) (shapeCast_dropUnit_apply ![128, 4096] v shapeCasts_S1x128x4096_S128x4096 (ValueIdx.ix2 i k))

variable (m : (ℓ : Loc nD τ sig) → Buf (Elt Ideal) ℓ)

/-- A slot holds the rows of the device it came from. -/
theorem slotV_at (c : Dev nD) (s : Fin 16) (i : Fin 256) (k : Fin 4096) :
    slotV m c s (Fin.cons ⟨0, Nat.one_pos⟩ (ix2 (d := ![256, 4096]) i k)) = xstg m (back c s) (ix2 (d := ![256, 4096]) i k) := by
  show gathF m c _ = _
  unfold gathF
  congr 1
  · congr 1
    · apply Fin.ext
      show 0 + 1 * i.val = i.val; omega
    · apply Fin.ext
      show 0 + 1 * k.val = k.val; omega

/-- So does half a slot. -/
theorem halfV_at (c : Dev nD) (s : Fin 16) (p : Fin 2) (i : Fin 128) (k : Fin 4096) :
    halfV m c s p (Fin.cons ⟨0, Nat.one_pos⟩ (ix2 (d := ![128, 4096]) i k))
      = xstg m (back c s) (ix2 (d := ![256, 4096]) ⟨128 * p.val + i.val, by have := p.isLt; have := i.isLt; show _ < 256; omega⟩ k) :=
  gathF_emb m c s p _

/-- The staged operands are the arrays. -/
theorem xstg_eq (c : Dev nD) : xstg m c = m ((c : Thread nD τ).loc main_arg0) := funext fun j =>
  congrArg (m ((c : Thread nD τ).loc main_arg0)) (whole_block (Memref.whole main_arg0) false false (stage0_0 0) (sem0_0 0) (Memref.isWhole_whole _) (hstage0_0 0) _ j)
theorem wstg_eq (c : Dev nD) : wstg m c = m ((c : Thread nD τ).loc main_arg1) := funext fun j =>
  congrArg (m ((c : Thread nD τ).loc main_arg1)) (whole_block (Memref.whole main_arg1) false false (stage0_1 0) (sem0_1 0) (Memref.isWhole_whole _) (hstage0_1 0) _ j)
theorem sxstg_eq (c : Dev nD) : sxstg m c = m ((c : Thread nD τ).loc main_arg2) := funext fun j =>
  congrArg (m ((c : Thread nD τ).loc main_arg2)) (whole_block (Memref.whole main_arg2) false false (stage0_2 0) (sem0_2 0) (Memref.isWhole_whole _) (hstage0_2 0) _ j)
theorem swstg_eq (c : Dev nD) : swstg m c = m ((c : Thread nD τ).loc main_arg3) := funext fun j =>
  congrArg (m ((c : Thread nD τ).loc main_arg3)) (whole_block (Memref.whole main_arg3) false false (stage0_3 0) (sem0_3 0) (Memref.isWhole_whole _) (hstage0_3 0) _ j)

/-- The widened columns are the columns. -/
theorem wide_at (c : Dev nD) (k : Fin 4096) (j : Fin 128) : (wide m c (ix2 (d := ![4096, 128]) k j) : EReal) = wstg m c (ix2 (d := ![4096, 128]) k j) := by
  unfold wide k0_pay2
  rw [shapeCast_self]
  rfl

/-- A one-entry array has one index, -/
theorem size_one : ∀ a : Fin 1, S1.size a = 1 := by decide
/-- The one index of a one-entry array. -/
def one : S1.Idx := fun a => ⟨0, (size_one a).symm ▸ Nat.one_pos⟩
/-- and every index is that one. -/
theorem one_eq (i : S1.Idx) : i = one := by
  funext a
  apply Fin.ext
  have := (i a).isLt
  have h1 := size_one a
  show (i a).val = 0
  omega

/-- The factor of a device's results. -/
theorem scale_eq (c : Dev nD) : scale m c = Scalar.mulf (F := Ideal) (φ := .f32) (m ((c : Thread nD τ).loc main_arg2) one) (m ((c : Thread nD τ).loc main_arg3) one) := by
  have h2 : ∀ i : S1.Idx, sxstg m c i = m ((c : Thread nD τ).loc main_arg2) one := fun i => by rw [sxstg_eq, one_eq i]
  have h3 : ∀ i : S1.Idx, swstg m c i = m ((c : Thread nD τ).loc main_arg3) one := fun i => by rw [swstg_eq, one_eq i]
  unfold scale k0_pay1
  exact congrArg₂ (Scalar.mulf (F := Ideal) (φ := .f32)) (h2 _) (h3 _)

/-- Row `r` of the whole of `x`: the device that has it, and where. -/
def ofRow (r : Fin 4096) : Dev nD × Fin 256 := (⟨r.val / 256, by have := r.isLt; show _ < 16; omega⟩, ⟨r.val % 256, Nat.mod_lt _ (by decide)⟩)

/-- Entries of a device's rows and columns. -/
def rowAt (c : Dev nD) (i : Fin 256) (k : Fin 4096) : EReal := m ((c : Thread nD τ).loc main_arg0) (ix2 (d := ![256, 4096]) i k)
def colAt (c : Dev nD) (k : Fin 4096) (j : Fin 128) : EReal := m ((c : Thread nD τ).loc main_arg1) (ix2 (d := ![4096, 128]) k j)

/-- The result of device `c` at row `r` and column `j`. -/
theorem outF_at (c : Dev nD) (r : Fin 4096) (j : Fin 128) :
    outF m c (ix2 (d := ![4096, 128]) r j) = act (∑ k : Fin 4096, rowAt m (ofRow r).1 (ofRow r).2 k * colAt m c k j) (scale m c) := by
  have hb : back c (back c (ofRow r).1) = (ofRow r).1 := back_back c (ofRow r).1
  have hs : ∀ x : Fin 4096 → EReal, (∀ k, x k = xstg m (ofRow r).1 (ix2 (d := ![256, 4096]) (ofRow r).2 k)) →
      (∑ k : Fin 4096, x k * wide m c (ix2 (d := ![4096, 128]) k j))
        = ∑ k : Fin 4096, rowAt m (ofRow r).1 (ofRow r).2 k * colAt m c k j := fun x hx =>
    Finset.sum_congr rfl fun k _ => by rw [hx k, wide_at, xstg_eq, wstg_eq]; rfl
  unfold outF
  dsimp only
  by_cases h : back c (ofRow r).1 = 8
  · refine (if_pos h).trans ((pay22_at _ _ _ _ _).trans (congrArg (fun s => act s (scale m c)) (hs _ fun k => (halfV_at m c 8 _ _ k).trans ?_)))
    rw [h] at hb
    rw [hb]
    congr 2
    apply Fin.ext
    show 128 * (r.val % 256 / 128) + r.val % 128 = r.val % 256
    omega
  · refine (if_neg h).trans ((pay5_at _ _ _ _ _).trans (congrArg (fun s => act s (scale m c)) (hs _ fun k => (slotV_at m c _ _ k).trans ?_)))
    exact congrArg (fun d => xstg m d (ix2 (d := ![256, 4096]) (ofRow r).2 k)) hb

end Cert.RingMatmul

end
-- ==== Proof.RefValue.lean ====
/-
  What the reference leaves in its result, entry by entry, at exact arithmetic.
-/
module

public import proofs.«01_k».proof.Proof.Values
public import proofs.«01_k».proof.Proof.Gen.ReferenceIdeal.Value

@[expose] public section

set_option maxRecDepth 16384

noncomputable section

namespace Cert.RingMatmul.Ref

open Cert.ReferenceIdeal Cert.ReferenceIdeal.Gen
open Idealize.ShloMosaic
open Idealize.ShloMosaic.TcCoe

/-- The corner a whole matrix starts at. -/
theorem corner : (![0, 0] : Fin 2 → ℕ) = fun _ => 0 := by
  funext a; fin_cases a <;> rfl

section
variable {F : FTy → Type} [FloatOps F]

/-- The block the reference's one store fills: the payload at the two matrices and the two scales. -/
theorem stored (c : Dev nD) (a0 : Memref sig .tc .vmem S4096x4096 .fp8e4m3) (h0 : a0.IsWhole) (a1 : Memref sig .tc .vmem S4096x2048 .fp8e5m2) (h1 : a1.IsWhole)
    (a2 : Memref sig .tc .smem S1 .f32) (h2 : a2.IsWhole) (a3 : Memref sig .tc .smem S1 .f32) (h3 : a3.IsWhole) (a4 : Memref sig .tc .vmem S4096x2048 .f32) (h4 : a4.IsWhole)
    (x : Vec F S4096x4096 .fp8e4m3) (w : Vec F S4096x2048 .fp8e5m2) (sx sw : Vec F S1 .f32) :
    out0_A_4 c a0 h0 a1 h1 a2 h2 a3 h3 a4 h4 x w sx sw = k0_pay1 x w (sx one) (sw one) := by
  have scalar : ∀ (a : Memref sig .tc .smem S1 .f32) (h : a.IsWhole) (s : Vec F S1 .f32) (i),
      View.readAt (Elt F) a.view (Rect.unit (s := S1) ![0] S1.size inb_S1_S1_0).toLoadRect (h.unread s) i = s one := fun a h s i => by
    rw [View.readAt_eq_ld, h.read_unread]
    exact congrArg s (one_eq _)
  have matrix : ∀ (s : Vec F S4096x4096 .fp8e4m3), View.readAt (Elt F) a0.view (Rect.unit ![0, 0] S4096x4096.size inb_S4096x4096_S4096x4096_0_0).toLoadRect (h0.unread s) = s := fun s => by
    rw [View.readAt_eq_ld, h0.read_unread, View.ld_unit_zero corner]
  have matrix' : ∀ (s : Vec F S4096x2048 .fp8e5m2), View.readAt (Elt F) a1.view (Rect.unit ![0, 0] S4096x2048.size inb_S4096x2048_S4096x2048_0_0).toLoadRect (h1.unread s) = s := fun s => by
    rw [View.readAt_eq_ld, h1.read_unread, View.ld_unit_zero corner]
  unfold out0_A_4
  rw [View.read_writes_junk_eq_canon]
  refine (View.canon_unit_zero corner _ _).trans ?_
  show k0_pay1 (View.readAt (Elt F) a0.view (Rect.unit ![0, 0] S4096x4096.size inb_S4096x4096_S4096x4096_0_0).toLoadRect (h0.unread x))
    (View.readAt (Elt F) a1.view (Rect.unit ![0, 0] S4096x2048.size inb_S4096x2048_S4096x2048_0_0).toLoadRect (h1.unread w))
    (View.readAt (Elt F) a2.view (Rect.unit (s := S1) ![0] S1.size inb_S1_S1_0).toLoadRect (h2.unread sx) _)
    (View.readAt (Elt F) a3.view (Rect.unit (s := S1) ![0] S1.size inb_S1_S1_0).toLoadRect (h3.unread sw) _) = _
  rw [matrix, matrix', scalar, scalar]

variable (m : (ℓ : Loc nD τ sig) → Buf (Elt F) ℓ)

/-- The block each operand stages is its array. -/
theorem block0 (c : Dev nD) (t : Fin cfg0.N) : iblk m c 0 t = m ((c : Thread nD τ).loc main_arg0) := funext fun j =>
  congrArg (m ((c : Thread nD τ).loc main_arg0)) (whole_block (Memref.whole main_arg0) false false (stage0_0 0) (sem0_0 0) (Memref.isWhole_whole _) (hstage0_0 0) t j)
theorem block1 (c : Dev nD) (t : Fin cfg0.N) : iblk m c 1 t = m ((c : Thread nD τ).loc main_arg1) := funext fun j =>
  congrArg (m ((c : Thread nD τ).loc main_arg1)) (whole_block (Memref.whole main_arg1) false false (stage0_1 0) (sem0_1 0) (Memref.isWhole_whole _) (hstage0_1 0) t j)
theorem block2 (c : Dev nD) (t : Fin cfg0.N) : iblk m c 2 t = m ((c : Thread nD τ).loc main_arg2) := funext fun j =>
  congrArg (m ((c : Thread nD τ).loc main_arg2)) (whole_block (Memref.whole main_arg2) false false (stage0_2 0) (sem0_2 0) (Memref.isWhole_whole _) (hstage0_2 0) t j)
theorem block3 (c : Dev nD) (t : Fin cfg0.N) : iblk m c 3 t = m ((c : Thread nD τ).loc main_arg3) := funext fun j =>
  congrArg (m ((c : Thread nD τ).loc main_arg3)) (whole_block (Memref.whole main_arg3) false false (stage0_3 0) (sem0_3 0) (Memref.isWhole_whole _) (hstage0_3 0) t j)

/-- The reference's one grid point. -/
def pt : Fin cfg0.N := ⟨0, by decide +kernel⟩

/-- The reference's result is the payload at its arguments. -/
theorem result_eq (c : Dev nD) : (Cert.ReferenceIdeal.Gen.dats m 0 c).arrAt 4 cfg0.N
    = k0_pay1 (m ((c : Thread nD τ).loc main_arg0)) (m ((c : Thread nD τ).loc main_arg1)) (m ((c : Thread nD τ).loc main_arg2) one) (m ((c : Thread nD τ).loc main_arg3) one) := by
  have hb := Cert.ReferenceIdeal.Value.blocks4 m c pt (flush0_4 pt)
  rw [Cert.ReferenceIdeal.Value.flushed4_A m c pt, stored, block0, block1, block2, block3] at hb
  funext j
  have e := whole_block (Memref.whole main_v0) true false (stage0_4 0) (sem0_4 0) (Memref.isWhole_whole _) (hstage0_4 0) pt j
  have hj := congrFun hb j
  exact (congrArg ((Cert.ReferenceIdeal.Gen.dats m 0 c).arrAt 4 cfg0.N) e).symm.trans hj
end

/-- Entries of the reference's two matrices. -/
def xAt (m : (ℓ : Loc nD τ sig) → Buf (Elt Ideal) ℓ) (c : Dev nD) (r k : Fin 4096) : EReal := m ((c : Thread nD τ).loc main_arg0) (ValueIdx.ix2 r k)
def wAt (m : (ℓ : Loc nD τ sig) → Buf (Elt Ideal) ℓ) (c : Dev nD) (k : Fin 4096) (j : Fin 2048) : EReal := m ((c : Thread nD τ).loc main_arg1) (ValueIdx.ix2 k j)

/-- The reference's result, at an entry. -/
theorem result_at (m : (ℓ : Loc nD τ sig) → Buf (Elt Ideal) ℓ) (c : Dev nD) (r : Fin 4096) (j : Fin 2048) :
    (Cert.ReferenceIdeal.Gen.dats m 0 c).arrAt 4 cfg0.N (ValueIdx.ix2 r j)
      = act (∑ k : Fin 4096, xAt m c r k * wAt m c k j)
          (Scalar.mulf (F := Ideal) (φ := .f32) (m ((c : Thread nD τ).loc main_arg2) one) (m ((c : Thread nD τ).loc main_arg3) one)) := by
  rw [result_eq]
  exact act_product (extf .f32 (m ((c : Thread nD τ).loc main_arg0)) bitsLt_fp8e4m3_f32) (extf .f32 (m ((c : Thread nD τ).loc main_arg1)) bitsLt_fp8e5m2_f32) _ r j

end Cert.RingMatmul.Ref

end
-- ==== Proof.Agree.lean ====
/-
  The claims, each from what the other modules prove: the three frames, and that the kernel's results are the blocks of the
  reference's result.
-/
module

public import proofs.«01_k».proof.Defs
public import proofs.«01_k».proof.Proof.RefValue
public import proofs.«01_k».proof.Proof.Gen.Kernel

@[expose] public section

set_option maxRecDepth 16384

noncomputable section

namespace Cert.RingMatmul

open Idealize.ShloMosaic
open Idealize.ShloMosaic.TcCoe
open Idealize.SL.Sem

/-- The kernel's frame, at exact arithmetic. -/
theorem frame_ideal : Cert.quiescent_KernelIdeal (hKernelIdeal := Cert.KernelIdeal.Gen.facts) := fun m g _ =>
  (θ_run Cert.KernelIdeal.defs _ _).mono (fun _ h => ⟨fun c => (h.1 c).2, h.2⟩) (outcome (F := Ideal) m g)

/-- The reference's frame. -/
theorem frame_reference : Cert.quiescent_ReferenceIdeal (hReferenceIdeal := Cert.ReferenceIdeal.Gen.facts) := fun m g _ =>
  Cert.ReferenceIdeal.Gen.frame m g

section
variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ)

/-- Column `j` of device `c`, as a column of the whole. -/
def ofCol (c : Fin 16) (j : Fin 128) : Fin 2048 := ⟨c.val * 128 + j.val, by have := c.isLt; have := j.isLt; omega⟩

/-- A device's rows are the reference's. -/
theorem row_same (h : ∀ c : Dev Cert.KernelIdeal.nD, m ((c : Thread Cert.KernelIdeal.nD Cert.KernelIdeal.τ).loc Cert.KernelIdeal.main_arg0)
      = Layout.block ⟨2, ![256, 4096]⟩ ⟨2, ![4096, 4096]⟩ 0 16 c (m' (((0 : Dev Cert.ReferenceIdeal.nD) : Thread Cert.ReferenceIdeal.nD Cert.ReferenceIdeal.τ).loc Cert.ReferenceIdeal.main_arg0)))
    (r k : Fin 4096) : rowAt m (ofRow r).1 (ofRow r).2 k = Ref.xAt m' 0 r k := by
  unfold rowAt Ref.xAt
  rw [h (ofRow r).1, Layout.block_apply]
  refine congrArg (m' _) (funext fun a => ?_)
  fin_cases a
  · apply Fin.ext
    show r.val / 256 * 256 + r.val % 256 = r.val
    omega
  · rfl

/-- A device's columns are the reference's. -/
theorem col_same (h : ∀ c : Dev Cert.KernelIdeal.nD, m ((c : Thread Cert.KernelIdeal.nD Cert.KernelIdeal.τ).loc Cert.KernelIdeal.main_arg1)
      = Layout.block ⟨2, ![4096, 128]⟩ ⟨2, ![4096, 2048]⟩ 1 16 c (m' (((0 : Dev Cert.ReferenceIdeal.nD) : Thread Cert.ReferenceIdeal.nD Cert.ReferenceIdeal.τ).loc Cert.ReferenceIdeal.main_arg1)))
    (c : Fin 16) (k : Fin 4096) (j : Fin 128) : colAt m c k j = Ref.wAt m' 0 k (ofCol c j) := by
  unfold colAt Ref.wAt
  rw [h c, Layout.block_apply]
  refine congrArg (m' _) (funext fun a => ?_)
  fin_cases a <;> rfl
end

/-- The kernel's results are the blocks of the reference's result. -/
theorem agree : Cert.algebraic_KernelIdeal_ReferenceIdeal (hKernelIdeal := Cert.KernelIdeal.Gen.facts) (hReferenceIdeal := Cert.ReferenceIdeal.Gen.facts) := by
  intro m g m' g' _ hm
  refine ⟨(Cert.ReferenceIdeal.Gen.dats m' 0 0).arrAt 4 Cert.ReferenceIdeal.cfg0.N,
    (θ_run Cert.KernelIdeal.defs _ _).mono (fun _ h c => ⟨(h.1 c).1.trans (funext fun i => ?_), (h.1 c).2⟩) (outcome (F := Ideal) m g),
    (θ_run Cert.ReferenceIdeal.defs _ _).mono (fun _ h => h 0) (Cert.ReferenceIdeal.Value.run_blocks m' g')⟩
  have hi : i = ix2 (d := ![4096, 128]) (i 0) (i 1) := by funext a; fin_cases a <;> rfl
  have hs : scale m c = Scalar.mulf (F := Ideal) (φ := .f32) (m' (((0 : Dev Cert.ReferenceIdeal.nD) : Thread Cert.ReferenceIdeal.nD Cert.ReferenceIdeal.τ).loc Cert.ReferenceIdeal.main_arg2) one)
      (m' (((0 : Dev Cert.ReferenceIdeal.nD) : Thread Cert.ReferenceIdeal.nD Cert.ReferenceIdeal.τ).loc Cert.ReferenceIdeal.main_arg3) one) := by
    rw [scale_eq]
    exact congrArg₂ (Scalar.mulf (F := Ideal) (φ := .f32)) (congrFun (hm c).2.2.1 one) (congrFun (hm c).2.2.2 one)
  have hsum : (∑ k : Fin 4096, rowAt m (ofRow (i 0)).1 (ofRow (i 0)).2 k * colAt m c k (i 1)) = ∑ k : Fin 4096, Ref.xAt m' 0 (i 0) k * Ref.wAt m' 0 k (ofCol c (i 1)) :=
    Finset.sum_congr rfl fun k _ => congrArg₂ (· * ·) (row_same m m' (fun c => (hm c).1) (i 0) k) (col_same m m' (fun c => (hm c).2.1) c k (i 1))
  rw [Layout.block_apply]
  refine (congrArg (outF m c) hi).trans ((outF_at m c (i 0) (i 1)).trans ?_)
  refine (congrArg₂ act hsum hs).trans ((Ref.result_at m' 0 (i 0) (ofCol c (i 1))).symm.trans ?_)
  refine congrArg ((Cert.ReferenceIdeal.Gen.dats m' 0 0).arrAt 4 Cert.ReferenceIdeal.cfg0.N) (funext fun a => ?_)
  fin_cases a <;> rfl

end Cert.RingMatmul

end
-- ==== Proof.lean ====
/-
  The claim, put together: the facts the programs state, the three frames, and the value claim.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.ReferenceIdeal.Value
public import proofs.«01_k».proof.Proof.Same
public import proofs.«01_k».proof.Proof.Agree
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  Cert.RingMatmul.frame_bits, Cert.RingMatmul.frame_ideal, Cert.RingMatmul.frame_reference, trivial, Cert.RingMatmul.agree⟩

end Cert.Proof

end
